-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S2048x1024 : Shape := ⟨2, ![2048, 1024]⟩
abbrev S2x1024x1024 : Shape := ⟨3, ![2, 1024, 1024]⟩
abbrev S_ : Shape := ⟨0, ![]⟩
abbrev S2x1024 : Shape := ⟨2, ![2, 1024]⟩
abbrev S2x1x1024 : Shape := ⟨3, ![2, 1, 1024]⟩

class Facts : Prop where
  bitsLt_bf16_f32 : FTy.bits .bf16 < FTy.bits .f32
  shapeCasts_S2048x1024_S2x1024x1024 : S2048x1024.ShapeCasts S2x1024x1024
  reducesTo_S2x1024x1024_S2x1024_d1 : S2x1024x1024.ReducesTo [1] S2x1024
  h_S_ : 0 < S_.numel
  bcast_S2x1024_S2x1x1024_0_2 : S2x1024.BroadcastsInDim S2x1x1024 (![0, 2] : Fin 2 → Fin S2x1x1024.rank)
  bcast_S2x1x1024_S2x1024x1024_0_1_2 : S2x1x1024.BroadcastsInDim S2x1024x1024 (![0, 1, 2] : Fin 3 → Fin S2x1024x1024.rank)
  natLt_1_32 : 1 < 32
  bcast_S_S2x1024 : S_.BroadcastsInDim S2x1024 (![] : Fin 0 → Fin S2x1024.rank)

variable [Facts]

def fn {F : FTy → Type} [FloatOps F] (main_arg0 : FVec F S2048x1024 .bf16) : IVec S2x1024 1 :=
  let main_v0 : FVec F S2048x1024 .f32 := (extf .f32 · bitsLt_bf16_f32) main_arg0
  let main_v1 : FVec F S2x1024x1024 .f32 := shapeCast S2x1024x1024 main_v0 shapeCasts_S2048x1024_S2x1024x1024
  let main_cst : FVec F S_ .f32 := constant S_ .f32 0xFF800000#32
  let main_v2 : FVec F S2x1024 .f32 := (fun x v => Host.reduce FloatOps.maximumf x v reducesTo_S2x1024x1024_S2x1024_d1 h_S_) main_v1 main_cst
  let main_v3 : FVec F S2x1x1024 .f32 := broadcastInDim S2x1x1024 ![0, 2] bcast_S2x1024_S2x1x1024_0_2 main_v2
  let main_v4 : FVec F S2x1024x1024 .f32 := broadcastInDim S2x1024x1024 ![0, 1, 2] bcast_S2x1x1024_S2x1024x1024_0_1_2 main_v3
  let main_v5 : IVec S2x1024x1024 1 := cmpf .oeq main_v1 main_v4
  let main_v6 : IVec S2x1024x1024 32 := (extui 32 · natLt_1_32) main_v5
  let main_c : IVec S_ 32 := constantI S_ 32 0#32
  let main_v7 : IVec S2x1024 32 := (fun x v => Host.reduce IntOp.addi x v reducesTo_S2x1024x1024_S2x1024_d1 h_S_) main_v6 main_c
  let main_c_0 : IVec S_ 32 := constantI S_ 32 1#32
  let main_v8 : IVec S2x1024 32 := broadcastInDim S2x1024 ![] bcast_S_S2x1024 main_c_0
  let main_v9 : IVec S2x1024 1 := cmpi .eq main_v7 main_v8
  main_v9
-- ==== Pre_no_tie_ReferenceIdeal.lean ====
abbrev S8192x1024 : Shape := ⟨2, ![8192, 1024]⟩
abbrev S8x1024x1024 : Shape := ⟨3, ![8, 1024, 1024]⟩
abbrev S_ : Shape := ⟨0, ![]⟩
abbrev S8x1024 : Shape := ⟨2, ![8, 1024]⟩
abbrev S8x1x1024 : Shape := ⟨3, ![8, 1, 1024]⟩

class Facts : Prop where
  bitsLt_bf16_f32 : FTy.bits .bf16 < FTy.bits .f32
  shapeCasts_S8192x1024_S8x1024x1024 : S8192x1024.ShapeCasts S8x1024x1024
  reducesTo_S8x1024x1024_S8x1024_d1 : S8x1024x1024.ReducesTo [1] S8x1024
  h_S_ : 0 < S_.numel
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  natLt_1_32 : 1 < 32
  bcast_S_S8x1024 : S_.BroadcastsInDim S8x1024 (![] : Fin 0 → Fin S8x1024.rank)

variable [Facts]

def fn {F : FTy → Type} [FloatOps F] (main_arg0 : FVec F S8192x1024 .bf16) : IVec S8x1024 1 :=
  let main_v0 : FVec F S8192x1024 .f32 := (extf .f32 · bitsLt_bf16_f32) main_arg0
  let main_v1 : FVec F S8x1024x1024 .f32 := shapeCast S8x1024x1024 main_v0 shapeCasts_S8192x1024_S8x1024x1024
  let main_cst : FVec F S_ .f32 := constant S_ .f32 0xFF800000#32
  let main_v2 : FVec F S8x1024 .f32 := (fun x v => Host.reduce FloatOps.maximumf x v reducesTo_S8x1024x1024_S8x1024_d1 h_S_) main_v1 main_cst
  let main_v3 : FVec F S8x1x1024 .f32 := broadcastInDim S8x1x1024 ![0, 2] bcast_S8x1024_S8x1x1024_0_2 main_v2
  let main_v4 : FVec F S8x1024x1024 .f32 := broadcastInDim S8x1024x1024 ![0, 1, 2] bcast_S8x1x1024_S8x1024x1024_0_1_2 main_v3
  let main_v5 : IVec S8x1024x1024 1 := cmpf .oeq main_v1 main_v4
  let main_v6 : IVec S8x1024x1024 32 := (extui 32 · natLt_1_32) main_v5
  let main_c : IVec S_ 32 := constantI S_ 32 0#32
  let main_v7 : IVec S8x1024 32 := (fun x v => Host.reduce IntOp.addi x v reducesTo_S8x1024x1024_S8x1024_d1 h_S_) main_v6 main_c
  let main_c_0 : IVec S_ 32 := constantI S_ 32 1#32
  let main_v8 : IVec S8x1024 32 := broadcastInDim S8x1024 ![] bcast_S_S8x1024 main_c_0
  let main_v9 : IVec S8x1024 1 := cmpi .eq main_v7 main_v8
  main_v9
-- ==== Kernel.lean ====
abbrev S2048x1024 : Shape := ⟨2, ![2048, 1024]⟩
abbrev S2x1024 : Shape := ⟨2, ![2, 1024]⟩
abbrev S1024x1024 : Shape := ⟨2, ![1024, 1024]⟩
abbrev S4x2x1024 : Shape := ⟨3, ![4, 2, 1024]⟩
abbrev S4 : Shape := ⟨1, ![4]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024, .f32⟩
  | .local _ .vmem, ⟨3, _⟩ => ⟨S4x2x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v30 : BitVec 32 := Scalar.addi v2 c1_i32_8
  let c4_i32_9 : BitVec 32 := 4#32
  let v31 : BitVec 32 := Scalar.remsi v30 c4_i32_9
  let c1_i32_11 : BitVec 32 := 1#32
  let v32 : BitVec 32 := Scalar.muli v31 c1_i32_11
  let v33 : BitVec 32 := Scalar.addi c0_i32_12 v32
  v33.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v34 : BitVec 32 := Scalar.addi v2 c2_i32
  let c4_i32_13 : BitVec 32 := 4#32
  let v35 : BitVec 32 := Scalar.remsi v34 c4_i32_13
  let c1_i32_15 : BitVec 32 := 1#32
  let v36 : BitVec 32 := Scalar.muli v35 c1_i32_15
  let v37 : BitVec 32 := Scalar.addi c0_i32_16 v36
  v37.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_17 : BitVec 32 := 4#32
  let v39 : BitVec 32 := Scalar.remsi v38 c4_i32_17
  let c1_i32_19 : BitVec 32 := 1#32
  let v40 : BitVec 32 := Scalar.muli v39 c1_i32_19
  let v41 : BitVec 32 := Scalar.addi c0_i32_20 v40
  v41.toNat
def k0_cond4 (i : grid0.Coords) : BitVec 1 :=
  let arg0 : BitVec 32 := BitVec.ofNat 32 (i 0).val
  let c1_i32_6 : BitVec 32 := 1#32
  let v27 : BitVec 1 := Scalar.cmpi .eq arg0 c1_i32_6
  let v28 : BitVec 32 := Scalar.extui v27
  let c0_i32_7 : BitVec 32 := 0#32
  let v29 : BitVec 1 := Scalar.cmpi .ne v28 c0_i32_7
  v29

def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v30 : BitVec 32 := Scalar.addi v2 c1_i32_8
  let c4_i32_9 : BitVec 32 := 4#32
  let v31 : BitVec 32 := Scalar.remsi v30 c4_i32_9
  let c1_i32_14 : BitVec 32 := 1#32
  let v32 : BitVec 32 := Scalar.muli v31 c1_i32_14
  let v33 : BitVec 32 := Scalar.addi c0_i32_15 v32
  v33.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v42 : BitVec 32 := Scalar.addi v2 c2_i32
  let c4_i32_20 : BitVec 32 := 4#32
  let v43 : BitVec 32 := Scalar.remsi v42 c4_i32_20
  let c1_i32_25 : BitVec 32 := 1#32
  let v44 : BitVec 32 := Scalar.muli v43 c1_i32_25
  let v45 : BitVec 32 := Scalar.addi c0_i32_26 v44
  v45.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v54 : BitVec 32 := Scalar.addi v2 c3_i32_31
  let c4_i32_32 : BitVec 32 := 4#32
  let v55 : BitVec 32 := Scalar.remsi v54 c4_i32_32
  let c1_i32_37 : BitVec 32 := 1#32
  let v56 : BitVec 32 := Scalar.muli v55 c1_i32_37
  let v57 : BitVec 32 := Scalar.addi c0_i32_38 v56
  v57.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .i32⟩
  | .hbm, ⟨2, _⟩ => ⟨S_, .bf16⟩
  | .hbm, ⟨3, _⟩ => ⟨S_, .i32⟩
  | .hbm, ⟨4, _⟩ => ⟨S1024, .bf16⟩
  | .hbm, ⟨5, _⟩ => ⟨S1024, .i32⟩
  | .hbm, ⟨6, _⟩ => ⟨S1024, .f32⟩
  | .hbm, ⟨7, _⟩ => ⟨S_, .bf16⟩
  | .hbm, ⟨8, _⟩ => ⟨S1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.KernelRun.lean ====
/-
The run of the program on the four devices: every device's result array ends at the combination of the four devices' blocks,
its argument as it was, every semaphore counter at zero.
-/
module

public import proofs.«01_k».proof.Proof.KernelLaunch
public import Idealize.ShloMosaic.Lib.Pipeline.ValueKit

@[expose] public section

noncomputable section

namespace Cert.Kernel.Proto

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The result array after the run: written once, whole, after the second grid point. -/
theorem finalA_out (c : Dev nD) : finalA m c (1 : Fin 2) = outAt m c := by
  refine (dats m 0 c).arrAt_eq_of_after_last (1 : Fin 2) t0_1 (by decide +kernel) _ fun j => ?_
  blk_simp
  rfl

theorem run_main : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)) ∧ r.2.sem = fun _ => 0) :=
  (θ_run defs (onTc (τ := τ) (main (F := F))) (s₀ m ρ)).mono
    (fun r h => ⟨fun c => ⟨(h.1 c 1).trans (finalA_out m c), (h.1 c 0).trans (finalA_x m c)⟩, h.2⟩) (run_arrays m ρ)

end Cert.Kernel.Proto

end
-- ==== Proof.KernelIdealViews.lean ====
/-
The scratch buffer of one device as four slots of two rows: where each slot and each row lies, what a row read returns,
what a row write leaves, and what a copy of one slot onto another leaves.
-/
module

public import proofs.«01_k».proof.Proof.Gen.KernelIdeal
public import Idealize.ShloMosaic.Lib.Pipeline.Kit
public import Idealize.ShloMosaic.Lib.Exec.Geometry

@[expose] public section

noncomputable section

namespace Cert.KernelIdeal.Proto

open Cert.KernelIdeal Cert.KernelIdeal.Gen
open Idealize.ShloMosaic Idealize.ShloMosaic.TcCoe Idealize.SL Idealize.SL.Sem

variable {F : FTy → Type} [FloatOps F]

/-- The whole scratch buffer. -/
abbrev rM : Memref sig .tc .vmem S4x2x1024 .f32 := Memref.whole cc0_scratch0

/-- Slot `k` of the scratch buffer, as the kernel names it. -/
abbrev slotM (k : Nat) (h : ∀ a, (![k, 0, 0] : Fin 3 → Nat) a + S1x2x1024.size a ≤ S4x2x1024.size a) : Memref sig .tc .vmem S2x1024 .f32 :=
  (rM.slice (Rect.unit (s := S4x2x1024) ![k, 0, 0] S1x2x1024.size h) (fun _ => rfl)).squeeze S2x1024 squeezes_S1x2x1024_S2x1024

/-- The rectangle of row `r` of slot `k`. -/
abbrev rowR (k r : Nat) (h : ∀ a, (![k, r, 0] : Fin 3 → Nat) a + S1x1x1024.size a ≤ S4x2x1024.size a) : Rect S4x2x1024 :=
  Rect.unit (s := S4x2x1024) ![k, r, 0] S1x1x1024.size h

/-- The elements of slot `k`. -/
def slotSet (k : Nat) : Finset S4x2x1024.Idx := Finset.univ.filter fun i => (i 0).val = k

theorem mem_slotSet {k : Nat} {i : S4x2x1024.Idx} : i ∈ slotSet k ↔ (i 0).val = k := by simp [slotSet]

/-- The index `(a, b)` of a two-row block. -/
def ij (a : Fin 2) (b : Fin 1024) : S2x1024.Idx := Shape.pair (d := ![2, 1024]) a b

theorem ij_eta (i : S2x1024.Idx) : ij (i 0) (i 1) = i := Shape.pair_eta i

/-- The contents of the scratch buffer every slot of which holds the block `X`. -/
def lift {α : Type} (X : S2x1024.Idx → α) : S4x2x1024.Idx → α := fun i => X (ij (i 1) (i 2))

/-- Row `r` of a block, as a row read returns it. -/
def row {α : Type} (r : Fin 2) (X : S2x1024.Idx → α) : S1x1x1024.Idx → α := fun j => X (ij r (j 2))

/-- The index of column `b` of a row read; of a row of the result. -/
def k3 (b : Fin 1024) : S1x1x1024.Idx := fun a => match a with | 0 => (0 : Fin 1) | 1 => (0 : Fin 1) | 2 => b
def k2 (b : Fin 1024) : S1x1024.Idx := Shape.pair (d := ![1, 1024]) (0 : Fin 1) b

/-- The block of two rows. -/
def rows2 {α : Type} (u v : S1x1x1024.Idx → α) : S2x1024.Idx → α := fun i => if (i 0).val = 0 then u (k3 (i 1)) else v (k3 (i 1))

theorem eta_row (j : S1x1x1024.Idx) : k3 (j 2) = j := by
  funext a
  fin_cases a
  · exact (Fin.eq_zero (j 0 : Fin 1)).symm
  · exact (Fin.eq_zero (j 1 : Fin 1)).symm
  · rfl

theorem row0_rows2 {α : Type} (u v : S1x1x1024.Idx → α) : row 0 (rows2 u v) = u := by
  funext j
  show (if ((0 : Fin 2)).val = 0 then u (k3 (j 2)) else v (k3 (j 2))) = u j
  exact (if_pos rfl).trans (congrArg u (eta_row j))
theorem row1_rows2 {α : Type} (u v : S1x1x1024.Idx → α) : row 1 (rows2 u v) = v := by
  funext j
  show (if ((1 : Fin 2)).val = 0 then u (k3 (j 2)) else v (k3 (j 2))) = v j
  exact (if_neg (by decide)).trans (congrArg v (eta_row j))

/-! ## Where a slot lies -/

theorem slot_emb {k : Nat} {h} (x : S2x1024.Idx) :
    (((slotM k h).view.emb x : S4x2x1024.Idx) 0).val = k ∧ (((slotM k h).view.emb x : S4x2x1024.Idx) 1).val = (x 0).val
      ∧ (((slotM k h).view.emb x : S4x2x1024.Idx) 2).val = (x 1).val := by
  have e : (slotM k h).view.emb x = (Rect.unit (s := S4x2x1024) ![k, 0, 0] S1x2x1024.size h).emb
      (Shape.reshapeEquiv (s := S1x2x1024) (Shape.Squeezes.numel_eq squeezes_S1x2x1024_S2x1024) x) := rfl
  have e2 : Shape.reshapeEquiv (s := S1x2x1024) (Shape.Squeezes.numel_eq squeezes_S1x2x1024_S2x1024) x
      = Fin.cons ⟨0, Nat.one_pos⟩ x := Shape.reshapeEquiv_cons_one (d := ![2, 1024]) _ x
  rw [e, e2]
  refine ⟨?_, ?_, ?_⟩
  · show k + 1 * 0 = k; omega
  · show 0 + 1 * (x 0).val = (x 0).val; omega
  · show 0 + 1 * (x 1).val = (x 1).val; omega

theorem slot_emb_ij {k : Nat} {h} (x : S2x1024.Idx) :
    ij (((slotM k h).view.emb x : S4x2x1024.Idx) 1) (((slotM k h).view.emb x : S4x2x1024.Idx) 2) = x := by
  have := slot_emb (k := k) (h := h) x
  rw [← ij_eta x]
  exact congrArg₂ ij (Fin.ext (by rw [ij_eta]; exact this.2.1)) (Fin.ext (by rw [ij_eta]; exact this.2.2))

theorem slot_emb_of_mem {k : Nat} {h} {i : S4x2x1024.Idx} (hi : i ∈ slotSet k) : (slotM k h).view.emb (ij (i 1) (i 2)) = i := by
  have := slot_emb (k := k) (h := h) (ij (i 1) (i 2))
  funext a
  fin_cases a
  · exact Fin.ext (this.1.trans (mem_slotSet.1 hi).symm)
  · exact Fin.ext this.2.1
  · exact Fin.ext this.2.2

theorem slot_set {k : Nat} {h} : (slotM k h).view.set = slotSet k := by
  ext i
  constructor
  · intro hi
    obtain ⟨x, -, rfl⟩ := Finset.mem_map.1 hi
    exact mem_slotSet.2 (slot_emb x).1
  · intro hi
    exact Finset.mem_map.2 ⟨_, Finset.mem_univ _, slot_emb_of_mem hi⟩

/-- A copy of a slot holding `X` onto slot `k` leaves `X` there. -/
theorem slot_copy {Val : EltTy → Type} {k k' : Nat} {h h'} (fd : S4x2x1024.Idx → Val .f32) (X : S2x1024.Idx → Val .f32) :
    ∀ i ∈ slotSet k, (slotM k h).view.write Val fd ((slotM k' h').view.read Val (lift X)) Finset.univ i = lift X i := by
  intro i hi
  have e := slot_emb_of_mem (h := h) hi
  generalize hx : ij (i 1) (i 2) = x at e
  rw [← e, View.write_emb_of_mem _ _ (Finset.mem_univ x), View.read_apply]
  show X _ = X _
  rw [slot_emb_ij, slot_emb_ij]

/-! ## A row -/

theorem row_emb {k r : Nat} {h} (j : S1x1x1024.Idx) :
    (((rowR k r h).emb j : S4x2x1024.Idx) 0).val = k ∧ (((rowR k r h).emb j : S4x2x1024.Idx) 1).val = r
      ∧ (((rowR k r h).emb j : S4x2x1024.Idx) 2).val = (j 2).val := by
  have h0 : (j 0).val = 0 := by have : (j 0).val < 1 := (j 0).isLt; omega
  have h1 : (j 1).val = 0 := by have : (j 1).val < 1 := (j 1).isLt; omega
  refine ⟨?_, ?_, ?_⟩
  · show k + 1 * (j 0).val = k; omega
  · show r + 1 * (j 1).val = r; omega
  · show 0 + 1 * (j 2).val = (j 2).val; omega

theorem row_set_subset {k r : Nat} {h} : rM.view.setOn (rowR k r h).toLoadRect.set ⊆ slotSet k := by
  intro i hi
  obtain ⟨x, hx, rfl⟩ := Finset.mem_map.1 hi
  obtain ⟨j, rfl⟩ := LoadRect.exists_idx_of_mem _ hx
  exact mem_slotSet.2 (row_emb (h := h) j).1

theorem row_access_subset {k r : Nat} {h} : (rM.access (rowR k r h)).setOn Finset.univ ⊆ slotSet k := by
  intro i hi
  obtain ⟨j, -, rfl⟩ := Finset.mem_map.1 hi
  exact mem_slotSet.2 (row_emb (h := h) j).1

/-- A row read of a buffer every slot of which holds `X` returns that row of `X`. -/
theorem read_row {Val : EltTy → Type} {k : Nat} {r : Fin 2} {h} (X : S2x1024.Idx → Val .f32) :
    rM.view.readAt Val (rowR k r.val h).toLoadRect (lift X) = row r X := by
  funext j
  show X (ij _ _) = X (ij _ _)
  have := row_emb (h := h) j
  exact congrArg X (congrArg₂ ij (Fin.ext this.2.1) (Fin.ext this.2.2))

/-- The elements of slot `k` after its two rows are written are the block of the two rows. -/
theorem write_rows {Val : EltTy → Type} {k : Nat} {h0 h1} (f : S4x2x1024.Idx → Val .f32) (u v : S1x1x1024.Idx → Val .f32) :
    ∀ i ∈ slotSet k, (rM.access (rowR k 1 h1)).write Val ((rM.access (rowR k 0 h0)).write Val f u Finset.univ) v Finset.univ i = lift (rows2 u v) i := by
  intro i hi
  have hk := mem_slotSet.1 hi
  let j : S1x1x1024.Idx := k3 (i 2)
  by_cases hr : (i 1).val = 0
  · have e0 : (rM.access (rowR k 0 h0)).emb j = i := by
      have := row_emb (h := h0) j
      funext a
      fin_cases a
      · exact Fin.ext (this.1.trans hk.symm)
      · exact Fin.ext (this.2.1.trans hr.symm)
      · exact Fin.ext this.2.2
    rw [View.write_of_not_mem]
    · rw [← e0, View.write_emb_of_mem _ _ (Finset.mem_univ _), e0]
      show u j = if (i 1).val = 0 then u (k3 (i 2)) else v (k3 (i 2))
      rw [if_pos hr]
    · intro hm
      obtain ⟨j', -, hj⟩ := Finset.mem_map.1 hm
      have := (row_emb (h := h1) j').2.1
      have e : (rowR k 1 h1).emb j' = i := hj
      rw [e] at this
      omega
  · have hr1 : (i 1).val = 1 := by have : (i 1).val < 2 := (i 1).isLt; omega
    have e1 : (rM.access (rowR k 1 h1)).emb j = i := by
      have := row_emb (h := h1) j
      funext a
      fin_cases a
      · exact Fin.ext (this.1.trans hk.symm)
      · exact Fin.ext (this.2.1.trans hr1.symm)
      · exact Fin.ext this.2.2
    rw [← e1, View.write_emb_of_mem _ _ (Finset.mem_univ _), e1]
    show v j = if (i 1).val = 0 then u (k3 (i 2)) else v (k3 (i 2))
    rw [if_neg hr]

/-- Row 1 of a slot, read after row 0 of it was written, is what it was. -/
theorem read_row1_of_write_row0 {Val : EltTy → Type} {k : Nat} {h0 h1} (f : S4x2x1024.Idx → Val .f32) (u : S1x1x1024.Idx → Val .f32) :
    rM.view.readAt Val (rowR k 1 h1).toLoadRect ((rM.access (rowR k 0 h0)).write Val f u Finset.univ) = rM.view.readAt Val (rowR k 1 h1).toLoadRect f := by
  refine View.readAt_congr fun i hi => View.write_of_not_mem _ _ _ ?_
  intro hm
  obtain ⟨j', -, hj⟩ := Finset.mem_map.1 hm
  obtain ⟨x, hx, hxi⟩ := Finset.mem_map.1 hi
  obtain ⟨j, rfl⟩ := LoadRect.exists_idx_of_mem _ hx
  have a := (row_emb (h := h1) j).2.1
  have b := (row_emb (h := h0) j').2.1
  have e1 : (rowR k 0 h0).emb j' = i := hj
  have e2 : (rowR k 1 h1).emb j = i := hxi
  rw [e1] at b; rw [e2] at a
  omega

/-! ## The four slots make up the buffer -/

theorem slots_disjoint {k k' : Nat} (h : k ≠ k') : Disjoint (slotSet k) (slotSet k') :=
  Finset.disjoint_left.2 fun i hi hi' => h ((mem_slotSet.1 hi).symm.trans (mem_slotSet.1 hi'))

theorem slots_cover : slotSet 0 ∪ (slotSet 1 ∪ (slotSet 2 ∪ slotSet 3)) = Finset.univ := by
  ext i
  simp only [Finset.mem_union, mem_slotSet, Finset.mem_univ, iff_true]
  have : (i 0).val < 4 := (i 0).isLt
  omega

/-! ## The result's staging buffer: two rows -/

abbrev oM : Memref sig .tc .vmem S2x1024 .f32 := Memref.whole cc0_stg1_0
abbrev outR (r : Nat) (h : ∀ a, (![r, 0] : Fin 2 → Nat) a + S1x1024.size a ≤ S2x1024.size a) : Rect S2x1024 :=
  Rect.unit (s := S2x1024) ![r, 0] S1x1024.size h

/-- The block of two rows, each given as a `1 × 1024` vector. -/
def outRows {α : Type} (u v : S1x1024.Idx → α) : S2x1024.Idx → α := fun i =>
  if (i 0).val = 0 then u (k2 (i 1)) else v (k2 (i 1))

theorem out_emb {r : Nat} {h} (j : S1x1024.Idx) :
    (((outR r h).emb j : S2x1024.Idx) 0).val = r ∧ (((outR r h).emb j : S2x1024.Idx) 1).val = (j 1).val := by
  have h0 : (j 0).val = 0 := by have : (j 0).val < 1 := (j 0).isLt; omega
  refine ⟨?_, ?_⟩
  · show r + 1 * (j 0).val = r; omega
  · show 0 + 1 * (j 1).val = (j 1).val; omega

theorem write_out {Val : EltTy → Type} {h0 h1} (f : S2x1024.Idx → Val .f32) (u v : S1x1024.Idx → Val .f32) :
    (oM.access (outR 1 h1)).write Val ((oM.access (outR 0 h0)).write Val f u Finset.univ) v Finset.univ = outRows u v := by
  funext i
  let j : S1x1024.Idx := k2 (i 1)
  by_cases hr : (i 0).val = 0
  · have e0 : (oM.access (outR 0 h0)).emb j = i := by
      have := out_emb (h := h0) j
      funext a
      fin_cases a
      · exact Fin.ext (this.1.trans hr.symm)
      · exact Fin.ext this.2
    rw [View.write_of_not_mem]
    · rw [← e0, View.write_emb_of_mem _ _ (Finset.mem_univ _), e0]
      show u j = if (i 0).val = 0 then u (k2 (i 1)) else v (k2 (i 1))
      rw [if_pos hr]
    · intro hm
      obtain ⟨j', -, hj⟩ := Finset.mem_map.1 hm
      have := (out_emb (h := h1) j').1
      have e : (outR 1 h1).emb j' = i := hj
      rw [e] at this
      omega
  · have hr1 : (i 0).val = 1 := by have : (i 0).val < 2 := (i 0).isLt; omega
    have e1 : (oM.access (outR 1 h1)).emb j = i := by
      have := out_emb (h := h1) j
      funext a
      fin_cases a
      · exact Fin.ext (this.1.trans hr1.symm)
      · exact Fin.ext this.2
    rw [← e1, View.write_emb_of_mem _ _ (Finset.mem_univ _), e1]
    show v j = if (i 0).val = 0 then u (k2 (i 1)) else v (k2 (i 1))
    rw [if_neg hr]

end Cert.KernelIdeal.Proto

end
-- ==== Proof.KernelIdealCommon.lean ====
/-
The protocol of the four devices, stated as a schedule of rounds on their semaphore cells.

A device first signals the barrier cell of each of its three peers; with each signal it hands over the one slot of its
scratch buffer into which that peer will copy. After waiting for its own three barrier signals it copies its slot 0 (its
own maxima and positions) into one slot of each peer, waits for the three blocks that its peers copy to it, combines the
four blocks, and waits for its own three copies to have left. This module states who owes what to which cell, what comes
with it, and the contents at each stage.
-/
module

public import proofs.«01_k».proof.Proof.KernelIdealViews
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

set_option backward.proofsInPublic true in
/-- The device `d + 1` places after `c`. -/
def peer (d : Fin 3) (c : Dev nD) : Dev nD := ⟨(c.val + (d.val + 1)) % 4, Nat.mod_lt _ (by decide)⟩
set_option backward.proofsInPublic true in
/-- The distance that leads back. -/
def opp (d : Fin 3) : Fin 3 := ⟨2 - d.val, by omega⟩

theorem peer_opp (d : Fin 3) (c : Dev nD) : peer (opp d) (peer d c) = c := by revert c d; decide
theorem opp_peer (d : Fin 3) (c : Dev nD) : peer d (peer (opp d) c) = c := by revert c d; decide
theorem opp_opp (d : Fin 3) : opp (opp d) = d := by revert d; decide

/-- One step of distance `d + 1` around the four devices, as a permutation. -/
def shift (d : Fin 3) : Dev nD ≃ Dev nD := ⟨peer d, peer (opp d), peer_opp d, opp_peer d⟩

theorem dev1_eq (i : grid0.Coords) (c : Dev nD) (h : k0_cond1 i = 1#1) : (⟨k0_dev1 c, k0_dev1_lt i c h⟩ : Dev nD) = peer 0 c := Fin.ext (k0_dev1_eq c)
theorem dev2_eq (i : grid0.Coords) (c : Dev nD) (h : k0_cond1 i = 1#1) : (⟨k0_dev2 c, k0_dev2_lt i c h⟩ : Dev nD) = peer 1 c := Fin.ext (k0_dev2_eq c)
theorem dev3_eq (i : grid0.Coords) (c : Dev nD) (h : k0_cond1 i = 1#1) : (⟨k0_dev3 c, k0_dev3_lt i c h⟩ : Dev nD) = peer 2 c := Fin.ext (k0_dev3_eq c)
theorem dev4_eq (i : grid0.Coords) (c : Dev nD) (h : k0_cond4 i = 1#1) : (⟨k0_dev4 c, k0_dev4_lt i c h⟩ : Dev nD) = peer 0 c := Fin.ext (k0_dev4_eq c)
theorem dev5_eq (i : grid0.Coords) (c : Dev nD) (h : k0_cond4 i = 1#1) : (⟨k0_dev5 c, k0_dev5_lt i c h⟩ : Dev nD) = peer 1 c := Fin.ext (k0_dev5_eq c)
theorem dev6_eq (i : grid0.Coords) (c : Dev nD) (h : k0_cond4 i = 1#1) : (⟨k0_dev6 c, k0_dev6_lt i c h⟩ : Dev nD) = peer 2 c := Fin.ext (k0_dev6_eq c)

/-! ## The semaphores and their cells -/

/-- The runtime's barrier semaphore. -/
abbrev barS : Sem sig := (SemArray.scalar (sig.barrier 0 rfl) : Sems sig S_).sem

set_option backward.proofsInPublic true in
/-- The semaphore that counts the copy to the device `d + 1` places after, on the sender. -/
def sendS (d : Fin 3) : DmaSem sig := (⟨4 + d.val, by omega⟩ : Fin 11)
set_option backward.proofsInPublic true in
/-- The semaphore that counts the block arriving in slot `d + 1`, on the receiver. -/
def recvS (d : Fin 3) : DmaSem sig := (⟨8 + d.val, by omega⟩ : Fin 11)

theorem send1 : ((cc0_scratch1.slice (Rect.unit (s := S4) ![1] S1.size inb_S4_S1_1)).squeeze S_ squeezes_S1_S_).sem = sendS 0 := rfl
theorem send2 : ((cc0_scratch1.slice (Rect.unit (s := S4) ![2] S1.size inb_S4_S1_2)).squeeze S_ squeezes_S1_S_).sem = sendS 1 := rfl
theorem send3 : ((cc0_scratch1.slice (Rect.unit (s := S4) ![3] S1.size inb_S4_S1_3)).squeeze S_ squeezes_S1_S_).sem = sendS 2 := rfl
theorem recv1 : ((cc0_scratch2.slice (Rect.unit (s := S4) ![1] S1.size inb_S4_S1_1)).squeeze S_ squeezes_S1_S_).sem = recvS 0 := rfl
theorem recv2 : ((cc0_scratch2.slice (Rect.unit (s := S4) ![2] S1.size inb_S4_S1_2)).squeeze S_ squeezes_S1_S_).sem = recvS 1 := rfl
theorem recv3 : ((cc0_scratch2.slice (Rect.unit (s := S4) ![3] S1.size inb_S4_S1_3)).squeeze S_ squeezes_S1_S_).sem = recvS 2 := rfl

abbrev barCell (c : Dev nD) : GSem nD τ sig := ((c : Thread nD τ), .reg barS)
abbrev sendCell (c : Dev nD) (d : Fin 3) : GSem nD τ sig := ((c : Thread nD τ), .dma (sendS d))
abbrev recvCell (c : Dev nD) (d : Fin 3) : GSem nD τ sig := ((c : Thread nD τ), .dma (recvS d))

/-- What one copy of a slot counts. -/
abbrev N : ℕ := (slotM 0 inb_S4x2x1024_S1x2x1024_0_0_0).view.dmaCredit
theorem N_pos : 0 < N := View.dmaCredit_pos _ (by decide)
theorem credit_slot (k : Nat) (h) : (slotM k h).view.dmaCredit = N := rfl

/-! ## Contents -/

/-- The block of the argument staged at a grid point. -/
def xb (c : Dev nD) (t : Fin cfg0.N) : Vec F S1024x1024 .bf16 := iblk m c 0 t

/-- Slot 0 after the first grid point: the maximum and its position in the first chunk, per column. -/
def acc0 (c : Dev nD) : S2x1024.Idx → Elt F .f32 := rows2 (k0_pay4 (xb m c t0_0)) (k0_pay5 (grid0.coords t0_0) c (xb m c t0_0))

/-- Slot 0 after the second: over the device's two chunks. -/
def acc1 (c : Dev nD) : S2x1024.Idx → Elt F .f32 :=
  rows2 (k0_pay8 (xb m c t0_1) (row 0 (acc0 m c)))
    (k0_pay9 (grid0.coords t0_1) c (xb m c t0_1) (row 0 (acc0 m c)) (row 1 (acc0 m c)))

/-- The combination of four blocks: the first one and then those of slots 1, 2 and 3. -/
def combine (a b₁ b₂ b₃ : S2x1024.Idx → Elt F .f32) : S2x1024.Idx → Elt F .f32 :=
  outRows
    (k0_pay25 (k0_pay20 (row 0 a) (row 1 a) (row 0 b₁) (row 1 b₁) (row 0 b₂) (row 1 b₂))
      (k0_pay21 (row 0 a) (row 1 a) (row 0 b₁) (row 1 b₁) (row 0 b₂) (row 1 b₂)) (row 0 b₃) (row 1 b₃))
    (k0_pay26 (k0_pay20 (row 0 a) (row 1 a) (row 0 b₁) (row 1 b₁) (row 0 b₂) (row 1 b₂))
      (k0_pay21 (row 0 a) (row 1 a) (row 0 b₁) (row 1 b₁) (row 0 b₂) (row 1 b₂)) (row 0 b₃) (row 1 b₃))

/-- The block that arrives in slot `d + 1`. -/
def landed (c : Dev nD) (d : Fin 3) : S2x1024.Idx → Elt F .f32 := acc1 m (peer (opp d) c)

/-- What device `c` writes to its result. -/
def outAt (c : Dev nD) : S2x1024.Idx → Elt F .f32 := combine (acc1 m c) (landed m c 0) (landed m c 1) (landed m c 2)

/-- Slot `k` of device `c`'s scratch buffer, at a share. -/
def slotPts (c : Dev nD) (k : Nat) (q : PosShare TreeShare) (f : S4x2x1024.Idx → Elt F .f32) : sProp 𝕄 :=
  rM.view.loc (c : Thread nD τ) ↦[slotSet k]{q} f

omit [FloatOps F] in
instance slotPts_storable (c : Dev nD) (k q) (f) : BI.Storable (upEmb : UEmb _ 𝕄) (slotPts (F := F) c k q f) := by
  unfold slotPts; infer_instance

/-- The three shares of slot 0 that are lent to the copies. -/
def lent (d : Fin 3) : PosShare TreeShare := match d with
  | 0 => fullShare.left.left
  | 1 => fullShare.left.right
  | 2 => fullShare.right.left
/-- The share that the device keeps for reading. -/
def kept : PosShare TreeShare := fullShare.right.right

omit [FloatOps F] in
theorem quarters (c : Dev nD) (k : Nat) (f : S4x2x1024.Idx → Elt F .f32) :
    (slotPts c k fullShare f : sProp 𝕄)
      ⊣⊢ iprop((slotPts c k (lent 0) f ∗ slotPts c k (lent 1) f) ∗ slotPts c k (lent 2) f ∗ slotPts c k kept f) := by
  unfold slotPts lent kept
  refine ⟨?_, ?_⟩
  · refine (pointsTo_share (PosShare.mem_left_op_right fullShare)).1.trans (BI.sep_mono ?_ ?_)
    · exact (pointsTo_share (PosShare.mem_left_op_right fullShare.left)).1
    · exact (pointsTo_share (PosShare.mem_left_op_right fullShare.right)).1
  · refine (BI.sep_mono ?_ ?_).trans (pointsTo_share (PosShare.mem_left_op_right fullShare)).2
    · exact (pointsTo_share (PosShare.mem_left_op_right fullShare.left)).2
    · exact (pointsTo_share (PosShare.mem_left_op_right fullShare.right)).2

omit [FloatOps F] in
theorem slotPts_congr (c : Dev nD) (k q) {f g : S4x2x1024.Idx → Elt F .f32} (h : ∀ i ∈ slotSet k, f i = g i) :
    (slotPts c k q f : sProp 𝕄) = slotPts c k q g := pointsTo_congr h

omit [FloatOps F] in
theorem disj01 : Disjoint (slotSet 0) (slotSet 1 ∪ (slotSet 2 ∪ slotSet 3)) :=
  Finset.disjoint_union_right.2 ⟨slots_disjoint (by decide), Finset.disjoint_union_right.2 ⟨slots_disjoint (by decide), slots_disjoint (by decide)⟩⟩
omit [FloatOps F] in
theorem disj12 : Disjoint (slotSet 1) (slotSet 2 ∪ slotSet 3) :=
  Finset.disjoint_union_right.2 ⟨slots_disjoint (by decide), slots_disjoint (by decide)⟩

omit [FloatOps F] in
/-- The whole buffer is its four slots. -/
theorem split_slots (c : Dev nD) (f : S4x2x1024.Idx → Elt F .f32) :
    (rM.view.loc (c : Thread nD τ) ↦{fullShare} f : sProp 𝕄)
      ⊢ iprop(slotPts c 0 fullShare f ∗ slotPts c 1 fullShare f ∗ slotPts c 2 fullShare f ∗ slotPts c 3 fullShare f) := by
  unfold slotPts
  have h : (rM.view.loc (c : Thread nD τ) ↦{fullShare} f : sProp 𝕄)
      = (rM.view.loc (c : Thread nD τ) ↦[slotSet 0 ∪ (slotSet 1 ∪ (slotSet 2 ∪ slotSet 3))]{fullShare} f) := by rw [slots_cover]
  refine (Entails.of_eq h).trans ((pointsTo_union disj01).1.trans (BI.sep_mono (BI.Entails.refl _) ((pointsTo_union disj12).1.trans (BI.sep_mono (BI.Entails.refl _) ?_))))
  exact (pointsTo_union (slots_disjoint (by decide))).1

omit [FloatOps F] in
/-- Four slots, whatever they hold, are the whole buffer at some contents. -/
theorem join_slots (c : Dev nD) (f₀ f₁ f₂ f₃ : S4x2x1024.Idx → Elt F .f32) :
    iprop(slotPts c 0 fullShare f₀ ∗ slotPts c 1 fullShare f₁ ∗ slotPts c 2 fullShare f₂ ∗ slotPts c 3 fullShare f₃)
      ⊢ (iprop(∃ f : S4x2x1024.Idx → Elt F .f32, rM.view.loc (c : Thread nD τ) ↦{fullShare} f) : sProp 𝕄) := by
  unfold slotPts
  refine (BI.sep_mono (BI.Entails.refl _) ((BI.sep_mono (BI.Entails.refl _) (pointsTo_join (slots_disjoint (by decide)))).trans (pointsTo_join disj12))).trans
    ((pointsTo_join disj01).trans ?_)
  rw [slots_cover]
  exact exists_intro (PROP := sProp 𝕄) _

/-! ## The schedule -/

/-- What comes with the barrier signal of duty `e`: slot `e + 1` of the device it comes from, and that the cell that counts
    what arrives there is in its first round. -/
def barPay (c : Dev nD) (e : Fin 3) : sProp 𝕄 :=
  iprop((∃ f, slotPts (peer e c) (e.val + 1) fullShare f) ∗ reached ER (recvCell (peer e c) e) 0)

/-- What comes with the end of a copy on the sender: the share that was lent to it. -/
def sendPay (c : Dev nD) (d : Fin 3) : sProp 𝕄 := slotPts c 0 (lent d) (lift (acc1 m c))

/-- What comes with an arrival in slot `d + 1`: the slot, holding the block of the device it came from. -/
def recvPay (c : Dev nD) (d : Fin 3) : sProp 𝕄 := slotPts c (d.val + 1) fullShare (lift (landed m c d))

abbrev IsBar (g : GSem nD τ sig) : Prop := g.1.2 = .tc ∧ g.2 = .reg barS
abbrev IsXfer (g : GSem nD τ sig) : Prop := g.1.2 = .tc ∧ ∃ d : Fin 3, g.2 = .dma (sendS d) ∨ g.2 = .dma (recvS d)

set_option backward.proofsInPublic true in
def payOf (c : Dev nD) (s : SemLoc sig) (e : Fin 3) : sProp 𝕄 := match s with
  | .reg _ => barPay c e
  | .dma q => if 8 ≤ q.val then recvPay m c ⟨(q.val - 8) % 3, Nat.mod_lt _ (by decide)⟩ else sendPay m c ⟨(q.val - 4) % 3, Nat.mod_lt _ (by decide)⟩

def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ e := payOf m g.1.1 g.2 e
  amount_pos g _ _ _ := by
    by_cases h : g.2 = .reg barS
    · rw [if_pos h]; exact Nat.one_pos
    · rw [if_neg h]; exact N_pos

instance rd_payload_storable (g : GSem nD τ sig) (r : ℕ) (e : Fin 3) : BI.Storable (upEmb : UEmb _ 𝕄) ((rd (F := F) m).payload g r e) := by
  show BI.Storable upEmb (payOf m g.1.1 g.2 e)
  obtain ⟨_, s⟩ := g
  unfold payOf barPay recvPay sendPay
  cases s
  · infer_instance
  · dsimp only; split <;> infer_instance

section Sched
variable (c : Dev nD) (d : Fin 3)

theorem duties_bar : (rd (F := F) m).duties (barCell c) 0 = Finset.univ := by dsimp only [rd]; exact if_pos ⟨rfl, rfl, rfl⟩
theorem duties_send : (rd (F := F) m).duties (sendCell c d) 0 = {0} := by
  dsimp only [rd]; rw [if_neg (fun h => by cases h.2.2)]; exact if_pos ⟨rfl, rfl, d, .inl rfl⟩
theorem duties_recv : (rd (F := F) m).duties (recvCell c d) 0 = {0} := by
  dsimp only [rd]; rw [if_neg (fun h => by cases h.2.2)]; exact if_pos ⟨rfl, rfl, d, .inr rfl⟩
theorem duties_later (g : GSem nD τ sig) : ∀ r, 1 ≤ r → (rd (F := F) m).duties g r = ∅ :=
  fun r hr => by dsimp only [rd]; rw [if_neg fun h => by omega, if_neg fun h => by omega]

theorem amount_bar (e : Fin 3) : (rd (F := F) m).amount (barCell c) 0 e = 1 := by dsimp only [rd]; exact if_pos rfl
theorem amount_xfer (q : DmaSem sig) (e : Fin 3) : (rd (F := F) m).amount ((c : Thread nD τ), .dma q) 0 e = N := by
  dsimp only [rd]; exact if_neg (fun h => by cases h)

theorem expect_bar : (rd (F := F) m).expect (barCell c) 0 = 3 := by
  unfold Schedule.expect Schedule.amountOf
  rw [duties_bar, Finset.sum_congr rfl fun e _ => amount_bar m c e, Finset.sum_const, Finset.card_univ, Fintype.card_fin, smul_eq_mul]
theorem expect_xfer (q : DmaSem sig) (hq : (rd (F := F) m).duties ((c : Thread nD τ), .dma q) 0 = {0}) :
    (rd (F := F) m).expect ((c : Thread nD τ), .dma q) 0 = N := by
  unfold Schedule.expect Schedule.amountOf; rw [hq, Finset.sum_singleton, amount_xfer]

theorem payload_bar (e : Fin 3) : (rd (F := F) m).payload (barCell c) 0 e = barPay c e := rfl
theorem payload_send (e : Fin 3) : (rd (F := F) m).payload (sendCell c d) 0 e = sendPay m c d := by
  fin_cases d <;> (dsimp only [rd, payOf]; exact if_neg (by decide))
theorem payload_recv (e : Fin 3) : (rd (F := F) m).payload (recvCell c d) 0 e = recvPay m c d := by
  fin_cases d <;> (dsimp only [rd, payOf]; exact if_pos (by decide))

theorem rest_bar : bigSep ((rd (F := F) m).duties (barCell c) 0 \ ∅) (fun e => (rd (F := F) m).payload (barCell c) 0 e)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_xfer (q : DmaSem sig) (hq : (rd (F := F) m).duties ((c : Thread nD τ), .dma q) 0 = {0}) :
    bigSep ((rd (F := F) m).duties ((c : Thread nD τ), .dma q) 0 \ ∅) (fun e => (rd (F := F) m).payload ((c : Thread nD τ), .dma q) 0 e)
      = (rd (F := F) m).payload ((c : Thread nD τ), .dma q) 0 0 := by
  rw [Finset.sdiff_empty, hq, bigSep_singleton]

end Sched

/-! ## What each device owes at launch; the levels -/

/-- At the second grid point device `c` owes the three arrival cells its copies will raise, the last copy innermost. -/
def Oa (c : Dev nD) : CellTallies nD τ sig Unit := tallyAt (recvCell (peer 2 c) 2) () N
def Ob (c : Dev nD) : CellTallies nD τ sig Unit := Oa c + tallyAt (recvCell (peer 1 c) 1) () N
def Omid (c : Dev nD) : CellTallies nD τ sig Unit := Ob c + tallyAt (recvCell (peer 0 c) 0) () N
/-- At launch it also owes a unit to each peer's barrier cell, the first signal outermost. -/
def Oc (c : Dev nD) : CellTallies nD τ sig Unit := Omid c + tallyAt (barCell (peer 2 c)) () 1
def Od (c : Dev nD) : CellTallies nD τ sig Unit := Oc c + tallyAt (barCell (peer 1 c)) () 1
def O₀ (c : Dev nD) : CellTallies nD τ sig Unit := Od c + tallyAt (barCell (peer 0 c)) () 1

def L (g : GSem nD τ sig) : Finset Unit := if g.1.2 = .tc then {()} else ∅
/-- The barrier cells lie below the arrival cells, and all others below both. -/
def lv (g : GSem nD τ sig) (_ : Unit) : ℕ := match g.2 with
  | .reg _ => 1
  | .dma q => if 8 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (d : Fin 3) (u : Unit) : lv (recvCell c d) u = 2 := by fin_cases d <;> rfl

theorem Omid_pos {c : Dev nD} {g : GSem nD τ sig} {u : Unit} (h : 0 < Omid c g u) : ∃ c' d, g = recvCell c' d := by
  unfold Omid Ob Oa at h
  simp only [Pi.add_apply, Finsupp.add_apply, tallyAt_apply] at h
  by_contra hn
  rw [if_neg (fun h' => hn ⟨_, _, h'.1⟩), if_neg (fun h' => hn ⟨_, _, h'.1⟩), if_neg (fun h' => hn ⟨_, _, h'.1⟩)] at h
  exact Nat.lt_irrefl 0 h
theorem O₀_pos {c : Dev nD} {g : GSem nD τ sig} {u : Unit} (h : 0 < O₀ c g u) : (∃ c' d, g = recvCell c' d) ∨ ∃ c', g = barCell c' := by
  unfold O₀ Od Oc at h
  simp only [Pi.add_apply, Finsupp.add_apply, tallyAt_apply] at h
  by_contra hn; rw [not_or] at hn
  rw [if_neg (fun h' => hn.2 ⟨_, h'.1⟩), if_neg (fun h' => hn.2 ⟨_, h'.1⟩), if_neg (fun h' => hn.2 ⟨_, h'.1⟩)] at h
  exact hn.1 (Omid_pos h)

/-- A wait of the pipeline, on a staging cell, whatever of its launch debt the device still owes. -/
theorem mayWait_stage (c : Dev nD) (q : DmaSem sig) (hq : ¬ 8 ≤ q.val) (O : CellTallies nD τ sig Unit) (hO : O = O₀ c ∨ O = Omid c ∨ O = 0) :
    (levAts L lv : sProp 𝕄) ⊢ MayWait (c : Thread nD τ) (.dma q) () O := by
  rcases hO with rfl | rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; exact (if_neg hq).le)
      (fun g u hg => by
        rcases O₀_pos hg with ⟨_, _, rfl⟩ | ⟨_, rfl⟩
        · rw [lv_recv]; decide
        · rw [lv_bar]; decide)
  · refine MayOwe.of_cut (L := L) (lev := lv) 0 (fun p hp => by rw [Finset.mem_singleton.mp hp, L_tc]; exact Finset.mem_singleton_self _)
      (fun g u hg => by rcases Omid_pos hg with ⟨_, _, rfl⟩; exact Finset.mem_singleton_self _)
      (fun p hp => by rw [Finset.mem_singleton.mp hp]; exact (if_neg hq).le)
      (fun g u hg => by
        rcases Omid_pos hg with ⟨_, _, rfl⟩
        rw [lv_recv]; decide)
  · rw [MayWait_zero]; iintro -; iempintro

/-- At its barrier wait a device owes the three arrival cells, which lie above its barrier cell. -/
theorem mayWait_bar (c : Dev nD) : (levAts L lv : sProp 𝕄) ⊢ MayWait (c : Thread nD τ) (.reg barS) () (Omid c) :=
  MayOwe.of_cut (L := L) (lev := lv) 1 (fun p hp => by rw [Finset.mem_singleton.mp hp, L_tc]; exact Finset.mem_singleton_self _)
    (fun g u hg => by rcases Omid_pos hg with ⟨_, _, rfl⟩; exact Finset.mem_singleton_self _)
    (fun p hp => by rw [Finset.mem_singleton.mp hp]; exact le_of_eq rfl)
    (fun g u hg => by
      rcases Omid_pos hg with ⟨_, _, rfl⟩
      rw [lv_recv]; decide)

/-! ## The cells of a device, and what it holds of them -/

/-- A device's cells: its barrier cell, its three cells for leaving copies, its three for arrivals. -/
abbrev CI : Type := Option (Fin 3 ⊕ Fin 3)
abbrev bI : CI := none
abbrev sI (d : Fin 3) : CI := some (.inl d)
abbrev vI (d : Fin 3) : CI := some (.inr d)

abbrev csem : CI → SemLoc sig := fun
  | none => .reg barS
  | some (.inl d) => .dma (sendS d)
  | some (.inr d) => .dma (recvS d)
abbrev kcell (ck : Dev nD × CI) : GSem nD τ sig := ((ck.1 : Thread nD τ), csem ck.2)

/-- The invariants of all cells, and that each is in its first round. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : (records m K : sProp 𝕄) ⊢ cellInv ER (rd m) (K ck) (kcell ck) := by
  have h : (bigSep Finset.univ fun ck : Dev nD × CI => (cellInv ER (rd m) (K ck) (kcell ck) : sProp 𝕄)) ⊢ cellInv ER (rd m) (K ck) (kcell ck) :=
    bigSep_elim (Finset.mem_univ ck)
  unfold records; iintro ⟨H, -⟩; iapply h; iexact H
theorem reached_at (K : Dev nD × CI → ℕ) (ck : Dev nD × CI) : (records m K : sProp 𝕄) ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩; iapply h; iexact H

/-- The tokens of the three barrier signals that device `c` gives. -/
def barToks (c : Dev nD) : sProp 𝕄 :=
  iprop(dutyTok ER (barCell (peer 0 c)) 0 (opp 0) ∗ dutyTok ER (barCell (peer 1 c)) 0 (opp 1) ∗ dutyTok ER (barCell (peer 2 c)) 0 (opp 2))
/-- Its place at each of its cells. -/
def places (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))
/-- The tokens of its three copies: leaving, and arriving at the peer. -/
def copyToks (c : Dev nD) : sProp 𝕄 :=
  iprop((dutyTok ER (sendCell c 0) 0 0 ∗ dutyTok ER (sendCell c 1) 0 0 ∗ dutyTok ER (sendCell c 2) 0 0)
    ∗ (dutyTok ER (recvCell (peer 0 c) 0) 0 0 ∗ dutyTok ER (recvCell (peer 1 c) 1) 0 0 ∗ dutyTok ER (recvCell (peer 2 c) 2) 0 0))
/-- The two semaphores of the arrays that no copy uses. -/
def idleSems (c : Dev nD) : sProp 𝕄 :=
  iprop(semVal ((c : Thread nD τ), SemLoc.dma (⟨3, by decide⟩ : Fin 11)) 0 ∗ semVal ((c : Thread nD τ), SemLoc.dma (⟨7, by decide⟩ : Fin 11)) 0)
/-- The credit it holds at launch: three units at its barrier cell, a copy's at each arrival cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What the launch hands device `c`. -/
def G' (c : Dev nD) : sProp 𝕄 := iprop(∃ K, records m K ∗ barToks c ∗ places c ∗ copyToks c ∗ idleSems c)
def start (c : Dev nD) : sProp 𝕄 := iprop(G' m c ∗ creds c ∗ levAts L lv)

/-- Before the first grid point: with the whole scratch buffer; -/
def Φ₀ (c : Dev nD) : sProp 𝕄 := iprop(start m c ∗ ∃ f : S4x2x1024.Idx → Elt F .f32, rM.view.loc (c : Thread nD τ) ↦{fullShare} f)
/-- between the two: slots 1 to 3 are handed over, slot 0 holds the first chunk's block; -/
def Φ₁ (c : Dev nD) : sProp 𝕄 :=
  iprop(slotPts c 0 fullShare (lift (acc0 m c)) ∗ (∃ K, records m K ∗ places c ∗ copyToks c ∗ idleSems c) ∗ creds c ∗ levAts L lv)
/-- after the second: the buffer whole again, all semaphores at zero. -/
def Φ₂ (c : Dev nD) : sProp 𝕄 :=
  iprop((∃ f : S4x2x1024.Idx → Elt F .f32, rM.view.loc (c : Thread nD τ) ↦{fullShare} f)
    ∗ semVal (barCell c) 0
    ∗ (semVal (sendCell c 0) 0 ∗ semVal (sendCell c 1) 0 ∗ semVal (sendCell c 2) 0)
    ∗ (semVal (recvCell c 0) 0 ∗ semVal (recvCell c 1) 0 ∗ semVal (recvCell c 2) 0)
    ∗ idleSems c)

/-! ## The pipeline's proof data -/

def dats (_ : Fin 1) (c : Dev nD) : Dat τ (Elt F) Unit ℕ UU ℕ cfg0 c where
  A w := V m c (Pipeline.arrRef spec0 w)
  after w t := match w with
    | ⟨0, _⟩ => xb m c t
    | ⟨1, _⟩ => outAt m c
  Φ t := match t with
    | ⟨0, _⟩ => Φ₀ m c
    | ⟨1, _⟩ => Φ₁ m c
    | ⟨_ + 2, _⟩ => Φ₂ c
  q _ := fullShare
  owed t := match t with
    | ⟨0, _⟩ => O₀ c
    | ⟨1, _⟩ => Omid c
    | ⟨_ + 2, _⟩ => 0

abbrev 𝒱₀ : Variants := Variants.none

end Cert.KernelIdeal.Proto

end
-- ==== Proof.KernelIdealSteps.lean ====
/-
One rule per remote step of the kernel: a barrier signal with the slot that it hands over, a copy to a peer, a wait on a
cell that counts copies.
-/
module

public import proofs.«01_k».proof.Proof.KernelIdealCommon

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A barrier signal to the device `j + 1` places after, handing over the slot that device will copy into. -/
theorem wp_bar_signal (c n : Dev nD) (j : Fin 3) (hn : n = peer j c) (k' : ℕ) (hk' : 1 = k')
    {O₁ : CellTallies nD τ sig Unit} (O : CellTallies nD τ sig Unit) (hO : O₁ = O + tallyAt (barCell (peer j c)) () 1)
    (f : S4x2x1024.Idx → Elt F .f32) (W : Waits sig Unit)
    {α : Type} {Q : α → sProp 𝕄} {k : PUnit → Prog (TpuEff nD τ sig (Elt F) Λ₀ .tc) α} :
    iprop(records m K ∗ owes (c : Thread nD τ) O₁ W ∗ dutyTok ER (barCell (peer j c)) 0 (opp j) ∗ slotPts c ((opp j).val + 1) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  iintro ⟨#HR, HO, Ht, Hs⟩ Hk
  iapply (Rounds.wp_signal 𝒱₀ ER (rd m) (c : Thread nD τ) none (dst := (peer j c : Thread nD τ)) (κ := K (peer j c, bI))
      (d := opp j) (by rw [duties_bar]; exact Finset.mem_univ _) (amount_bar m (peer j c) (opp j)) () O hO)
    $$ [HO Ht Hs]
  · isplitr; · iapply (inv_at m K (peer j c, bI)); iexact HR
    isplitl [HO]; · iexact HO
    isplitl [Ht]; · iexact Ht
    isplitl [Hs]
    · rw [payload_bar]; unfold barPay; rw [peer_opp]
      isplitl [Hs]; · iexists f; iexact Hs
      iapply (reached_at m K (c, vI (opp j))); iexact HR
    · iapply (reached_at m K (peer j c, bI)); iexact HR
  iexact Hk

/-- The wait for the three barrier signals: with them come a slot of each peer. -/
theorem wp_bar_wait (c : Dev nD) (k' : ℕ) (hk' : k' = 3) (O : CellTallies nD τ sig Unit) (W : Waits sig Unit)
    {α : Type} {Q : α → sProp 𝕄} {k : PUnit → Prog (TpuEff nD τ sig (Elt F) Λ₀ .tc) α} :
    iprop(records m K ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) (0 + 1) ∅ 0
            ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, HM, Hat⟩ Hk
  iapply (Rounds.wp_wait_rest_token 𝒱₀ ER (rd m) (c : Thread nD τ) none (κ := K (c, bI))
      (wpE_semWait_eq 𝒱₀ (c : Thread nD τ) none Set.univ) (Set.mem_univ _) () (O := O) (W := W) (R := 0) (m := 0) (T := ∅)
      (by rw [expect_bar])) $$ [Hc HO HM Hat]
  · isplitr; · iapply (inv_at m K (c, bI)); iexact HR
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_bar m c)); iexact Hpay

/-- A wait, owing nothing, on a cell that counts one copy: the cell's payload comes back. -/
theorem wp_wait_xfer (c : Dev nD) (q : DmaSem sig) (hq : (rd (F := F) m).duties ((c : Thread nD τ), .dma q) 0 = {0}) (κ : ℕ) (W : Waits sig Unit)
    {src dst : Memref sig .tc .vmem S2x1024 .f32} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (rd m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ (rd (F := F) m).payload ((c : Thread nD τ), .dma q) 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_xfer m c q hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_xfer m c q hq)); iexact Hpay

/-- The wait for the arrival in slot `d + 1`. -/
theorem wp_wait_recv (c : Dev nD) (d : Fin 3) (W : Waits sig Unit)
    {src dst : Memref sig .tc .vmem S2x1024 .f32} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (recvCell c d) () N) ∗ owes (c : Thread nD τ) 0 W ∗ atPos ER (recvCell c d) 0 ∅ 0)
      ⊢ iprop(((owes (c : Thread nD τ) 0 (insert (SemLoc.dma (recvS d), ()) W) ∗ semVal (recvCell c d) 0
            ∗ slotPts c (d.val + 1) fullShare (lift (landed m c d))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) src dst hsrc hdst) k) Q) := by
  iintro ⟨#HR, Hc, HO, Hat⟩ Hk
  iapply (wp_wait_xfer m c (recvS d) (duties_recv m c d) (K (c, vI d)) W hN) $$ [Hc HO Hat]
  · isplitr; · iapply (inv_at m K (c, vI d)); iexact HR
    isplitl [Hc]; · iexact Hc
    isplitl [HO] <;> iassumption
  iintro ⟨HO, Hat, Hpay⟩
  imod (Rounds.cell_close ER (rd m) (Set.mem_univ (K (c, vI d))) (fun h => h) (R := 0 + 1) (duties_later m (recvCell c d))) $$ [Hat] with Hz
  · isplitr; · iapply (inv_at m K (c, vI d)); iexact HR
    iexact Hat
  iapply Hk
  isplitl [HO]; · iexact HO
  isplitl [Hz]; · iexact Hz
  iapply (Entails.of_eq ((payload_recv m c d 0).trans (show recvPay m c d = slotPts c (d.val + 1) fullShare (lift (landed m c d)) from rfl))); iexact Hpay

/-- The wait for the copy to the device `d + 1` places after to have left: the share lent to it comes back. -/
theorem wp_wait_send (c : Dev nD) (d : Fin 3) (W : Waits sig Unit)
    {src dst : Memref sig .tc .vmem S2x1024 .f32} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (sendCell c d) () N) ∗ owes (c : Thread nD τ) 0 W ∗ atPos ER (sendCell c d) 0 ∅ 0)
      ⊢ iprop(((owes (c : Thread nD τ) 0 (insert (SemLoc.dma (sendS d), ()) W) ∗ semVal (sendCell c d) 0
            ∗ slotPts c 0 (lent d) (lift (acc1 m c))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) src dst hsrc hdst) k) Q) := by
  iintro ⟨#HR, Hc, HO, Hat⟩ Hk
  iapply (wp_wait_xfer m c (sendS d) (duties_send m c d) (K (c, sI d)) W hN) $$ [Hc HO Hat]
  · isplitr; · iapply (inv_at m K (c, sI d)); iexact HR
    isplitl [Hc]; · iexact Hc
    isplitl [HO] <;> iassumption
  iintro ⟨HO, Hat, Hpay⟩
  imod (Rounds.cell_close ER (rd m) (Set.mem_univ (K (c, sI d))) (fun h => h) (R := 0 + 1) (duties_later m (sendCell c d))) $$ [Hat] with Hz
  · isplitr; · iapply (inv_at m K (c, sI d)); iexact HR
    iexact Hat
  iapply Hk
  isplitl [HO]; · iexact HO
  isplitl [Hz]; · iexact Hz
  iapply (Entails.of_eq ((payload_send m c d 0).trans (show sendPay m c d = slotPts c 0 (lent d) (lift (acc1 m c)) from rfl))); iexact Hpay

/-- The copy of slot 0 to slot `k1` of the device `d + 1` places after, from the two cells' invariants. -/
theorem wp_copy_inv (c n : Dev nD) (d : Fin 3) (hn : n = peer d c) (κ₁ κ₂ : ℕ) (k1 : Nat) (hk1 : k1 = d.val + 1) (h0) (h1)
    {hsc : (slotM k1 h1 : Memref sig (Dev.tc n : Thread nD τ).2.kind .vmem S2x1024 .f32).view.ref.isScScratch = false}
    {hsrc : (slotM 0 h0).view.WordExact} {hdst : (slotM k1 h1).view.WordExact}
    {hsem : DmaTarget.Typed .vmem (.dma (recvS d)) (.remote (Dev.tc n : Thread nD τ) (slotM k1 h1) (.dma (sendS d)) hsc)}
    {O₁ : CellTallies nD τ sig Unit} (O : CellTallies nD τ sig Unit) (hO : O₁ = O + tallyAt (recvCell (peer d c) d) () N)
    (f : S4x2x1024.Idx → Elt F .f32) (W : Waits sig Unit)
    {α : Type} {Q : α → sProp 𝕄} {k : PUnit → Prog (TpuEff nD τ sig (Elt F) Λ₀ .tc) α} :
    iprop(cellInv ER (rd m) κ₁ (sendCell c d) ∗ cellInv ER (rd m) κ₂ (recvCell (peer d c) d)
        ∗ slotPts c 0 (lent d) (lift (acc1 m c)) ∗ slotPts (peer d c) k1 fullShare f
        ∗ owes (c : Thread nD τ) O₁ W ∗ dutyTok ER (sendCell c d) 0 0 ∗ reached ER (sendCell c d) 0
        ∗ dutyTok ER (recvCell (peer d c) d) 0 0 ∗ reached ER (recvCell (peer d c) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 h0) (.remote (Dev.tc n : Thread nD τ) (slotM k1 h1) (.dma (sendS d)) hsc) (.dma (recvS d)) hsrc hdst hsem) k) Q) := by
  subst hn
  have e0 (q : PosShare TreeShare) (g : S4x2x1024.Idx → Elt F .f32) :
      (slotPts c 0 q g : sProp 𝕄) = ((slotM 0 h0).view.loc (c : Thread nD τ) ↦[(slotM 0 h0).view.set]{q} g) := by
    rw [slot_set]; rfl
  have e1 (g : S4x2x1024.Idx → Elt F .f32) :
      (slotPts (peer d c) k1 fullShare g : sProp 𝕄) = ((slotM k1 h1).view.loc (peer d c : Thread nD τ) ↦[(slotM k1 h1).view.set]{fullShare} g) := by
    rw [slot_set]; rfl
  have pay1 : (slotPts c 0 (lent d) (lift (acc1 m c)) : sProp 𝕄) ⊢ (rd (F := F) m).payload (sendCell c d) 0 0 := by
    rw [payload_send]; exact BI.Entails.refl _
  have pay2 : (slotPts (peer d c) k1 fullShare ((slotM k1 h1).view.write (Elt F) f ((slotM 0 h0).view.read (Elt F) (lift (acc1 m c))) Finset.univ) : sProp 𝕄)
      ⊢ (rd (F := F) m).payload (recvCell (peer d c) d) 0 0 := by
    rw [payload_recv]; unfold recvPay landed; rw [peer_opp, ← hk1]
    exact Entails.of_eq (slotPts_congr _ _ _ (slot_copy _ _))
  rw [e0] at pay1 ⊢; rw [e1] at pay2 ⊢
  have hN : (slotM k1 h1).view.amount (.dma (recvS d)) = N := credit_slot k1 h1
  have h1a : (0 : Fin 3) ∈ (rd (F := F) m).duties (sendCell c d) 0 := by rw [duties_send]; exact Finset.mem_singleton_self _
  have h2a : (0 : Fin 3) ∈ (rd (F := F) m).duties (recvCell (peer d c) d) 0 := by rw [duties_recv]; exact Finset.mem_singleton_self _
  have hr : τ.routes (c : Thread nD τ) (peer d c : Thread nD τ) = true := by routes
  refine Rounds.wp_send_pointsTo (c' := (peer d c : Thread nD τ)) (src := slotM 0 h0) (dst := (slotM k1 h1 : Memref sig (Dev.tc (peer d c) : Thread nD τ).2.kind .vmem S2x1024 .f32)) (hsc := hsc) (sS := .dma (sendS d)) (sem := .dma (recvS d)) (hsrc := hsrc) (hdst := hdst) (hsem := hsem) (q := lent d) (fs := lift (acc1 m c)) 𝒱₀ ER (rd m) (c : Thread nD τ) none (κ₁ := κ₁) (κ₂ := κ₂)
    (r₁ := 0) (r₂ := 0) (d₁ := 0) (d₂ := 0) (fd := f)
    h1a h2a () () N hN (amount_xfer m c (sendS d) 0) (amount_xfer m (peer d c) (recvS d) 0) O hO (W := W) pay1 pay2 hr

/-- The same from the records of all cells. -/
theorem wp_copy (c n : Dev nD) (d : Fin 3) (hn : n = peer d c) (k1 : Nat) (hk1 : k1 = d.val + 1) (h0) (h1)
    {hsc : (slotM k1 h1 : Memref sig (Dev.tc n : Thread nD τ).2.kind .vmem S2x1024 .f32).view.ref.isScScratch = false}
    {hsrc : (slotM 0 h0).view.WordExact} {hdst : (slotM k1 h1).view.WordExact}
    {hsem : DmaTarget.Typed .vmem (.dma (recvS d)) (.remote (Dev.tc n : Thread nD τ) (slotM k1 h1) (.dma (sendS d)) hsc)}
    {O₁ : CellTallies nD τ sig Unit} (O : CellTallies nD τ sig Unit) (hO : O₁ = O + tallyAt (recvCell (peer d c) d) () N)
    (f : S4x2x1024.Idx → Elt F .f32) (W : Waits sig Unit)
    {α : Type} {Q : α → sProp 𝕄} {k : PUnit → Prog (TpuEff nD τ sig (Elt F) Λ₀ .tc) α} :
    iprop(records m K ∗ slotPts c 0 (lent d) (lift (acc1 m c)) ∗ slotPts (peer d c) k1 fullShare f
        ∗ owes (c : Thread nD τ) O₁ W ∗ dutyTok ER (sendCell c d) 0 0 ∗ dutyTok ER (recvCell (peer d c) d) 0 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 h0) (.remote (Dev.tc n : Thread nD τ) (slotM k1 h1) (.dma (sendS d)) hsc) (.dma (recvS d)) hsrc hdst hsem) k) Q) := by
  refine BIBase.Entails.trans ?_ (wp_copy_inv m c n d hn (K (c, sI d)) (K (peer d c, vI d)) k1 hk1 h0 h1 O hO f W)
  iintro ⟨#HR, Hs, Hd, HO, Ht1, Ht2⟩
  isplitr; · iapply (inv_at m K (c, sI d)); iexact HR
  isplitr; · iapply (inv_at m K (peer d c, vI d)); iexact HR
  isplitl [Hs]; · iexact Hs
  isplitl [Hd]; · iexact Hd
  isplitl [HO]; · iexact HO
  isplitl [Ht1]; · iexact Ht1
  isplitr; · iapply (reached_at m K (c, sI d)); iexact HR
  isplitl [Ht2]; · iexact Ht2
  iapply (reached_at m K (peer d c, vI d)); iexact HR

end Cert.KernelIdeal.Proto

end
-- ==== Proof.KernelIdealFirst.lean ====
/-
The kernel body at the first grid point: the three barrier signals, each handing over one slot of the scratch buffer, and
the maxima and positions of the first chunk stored to slot 0.
-/
module

public import proofs.«01_k».proof.Proof.KernelIdealSteps

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem hz : (![0, 0] : Fin 2 → Nat) = fun _ => 0 := funext fun a => by fin_cases a <;> rfl
theorem read_x0 (f : (cc0_stg0_0 : Ref sig .tc).ty.Contents (Elt F)) :
    (Memref.whole cc0_stg0_0 : Memref sig .tc .vmem S1024x1024 .bf16).view.readAt (Elt F)
      (Rect.unit (s := S1024x1024) ![0, 0] S1024x1024.size inb_S1024x1024_S1024x1024_0_0).toLoadRect f = f :=
  Memref.readAt_unit_zero (Elt F) cc0_stg0_0 hz _ f

/-- Slot `k` after its two rows are written. -/
theorem store_rows (c : Dev nD) (k : Nat) (q : PosShare TreeShare) (h0) (h1) {f : S4x2x1024.Idx → Elt F .f32} {u v : S1x1x1024.Idx → Elt F .f32} :
    (slotPts c k q ((rM.access (rowR k 1 h1)).write (Elt F) ((rM.access (rowR k 0 h0)).write (Elt F) f u Finset.univ) v Finset.univ) : sProp 𝕄)
      ⊢ slotPts c k q (lift (rows2 u v)) := Entails.of_eq (slotPts_congr c k q (write_rows f u v))

/-! Which of the body's branches the first grid point takes. -/
theorem first_c1 : k0_cond1 (grid0.coords t0_0) = 1#1 := by decide
theorem first_c2 : Scalar.cmpi .ne (Scalar.extui (Scalar.cmpi .eq (BitVec.ofNat 32 ((grid0.coords t0_0) 0).val) 0#32) : BitVec 32) 0#32 = 1#1 := by decide
theorem first_c3 : ¬ Scalar.cmpi .ne (Scalar.extui (Scalar.cmpi .sgt (BitVec.ofNat 32 ((grid0.coords t0_0) 0).val) 0#32) : BitVec 32) 0#32 = 1#1 := by decide
theorem first_c4 : ¬ k0_cond4 (grid0.coords t0_0) = 1#1 := by decide

set_option maxHeartbeats 1600000 in
theorem sound_first (c : Dev nD) (arg2 : Memref sig .tc .vmem S2x1024 .f32) (harg2 : arg2.IsWhole) (Kt : PUnit → sProp 𝕄) :
    iprop(Φ₀ m c ∗ (dats m 0 c).owesAt () t0_0.castSucc
        ∗ (((c : Thread nD τ).loc cc0_stg0_0) ↦{fullShare} (xb m c t0_0 : (cc0_stg0_0 : Ref sig .tc).ty.Contents (Elt F)))
        ∗ ((Φ₁ m c ∗ (dats m 0 c).owesAt () t0_0.succ
            ∗ (((c : Thread nD τ).loc cc0_stg0_0) ↦{fullShare} (xb m c t0_0 : (cc0_stg0_0 : Ref sig .tc).ty.Contents (Elt F)))) -∗ Kt ⟨⟩))
      ⊢ wp frame (wpE (defs₀ (F := F)) 𝒱₀ c none) Set.univ
          (cc0_body (grid0.coords t0_0) (Memref.whole cc0_stg0_0) (Memref.isWhole_whole _) arg2 harg2
            (Memref.whole cc0_scratch0) (Memref.isWhole_whole _) cc0_scratch1 cc0_scratch2) Kt := by
  simp only [cc0_body_eq_skeleton]; unfold cc0_body_skel
  simp only [dif_pos first_c1, dif_pos first_c2, dif_neg first_c3, dif_neg first_c4]
  simp only [semSignalWord, semWaitWord, Prog.lift, Prog.bind_op, Prog.bind_ret, Prog.pure_eq_ret, Prog.bind_assoc, wp_deviceId]
  unfold Φ₀ start G' barToks Dat.owesAt Pipeline.owesWithin
  iintro ⟨⟨⟨⟨%K, #HR, ⟨Ht0, Ht1, Ht2⟩, Hpl, Hct, Hid⟩, Hcr, #Hlev⟩, ⟨%f, Hs⟩⟩, ⟨%W, %hW, HO⟩, Hx, Hk⟩
  rw [show (dats m 0 c).owed t0_0.castSucc = O₀ c from rfl]
  ihave Hs4 := (split_slots c f) $$ Hs
  icases Hs4 with ⟨Hs0, Hs1, Hs2, Hs3⟩
  iapply (wp_bar_signal m K c _ 0 (dev1_eq (grid0.coords t0_0) c first_c1) _ (by decide) (Od c) rfl f W) $$ [HO Ht0 Hs3]
  · isplitr; · iexact HR
    isplitl [HO]; · iexact HO
    isplitl [Ht0]; · iexact Ht0
    iexact Hs3
  iintro HO
  iapply (wp_bar_signal m K c _ 1 (dev2_eq (grid0.coords t0_0) c first_c1) _ (by decide) (Oc c) rfl f W) $$ [HO Ht1 Hs2]
  · isplitr; · iexact HR
    isplitl [HO]; · iexact HO
    isplitl [Ht1]; · iexact Ht1
    iexact Hs2
  iintro HO
  iapply (wp_bar_signal m K c _ 2 (dev3_eq (grid0.coords t0_0) c first_c1) _ (by decide) (Omid c) rfl f W) $$ [HO Ht2 Hs1]
  · isplitr; · iexact HR
    isplitl [HO]; · iexact HO
    isplitl [Ht2]; · iexact Ht2
    iexact Hs1
  iintro HO
  iapply (wp_load 𝒱₀ (c : Thread nD τ) none Set.univ (m := Memref.whole cc0_stg0_0) (Finset.subset_univ _)) $$ Hx; iintro Hx
  rw [read_x0]
  unfold slotPts
  iapply (wp_load 𝒱₀ (c : Thread nD τ) none Set.univ (m := rM) row_set_subset) $$ Hs0; iintro Hs0
  iapply (wp_store 𝒱₀ (c : Thread nD τ) none Set.univ (m := rM) (r := rowR 0 0 inb_S4x2x1024_S1x1x1024_0_0_0) (Mk := Finset.univ) row_access_subset) $$ Hs0; iintro Hs0
  iapply (wp_load 𝒱₀ (c : Thread nD τ) none Set.univ (m := rM) row_set_subset) $$ Hs0; iintro Hs0
  iapply (wp_store 𝒱₀ (c : Thread nD τ) none Set.univ (m := rM) (r := rowR 0 1 inb_S4x2x1024_S1x1x1024_0_1_0) (Mk := Finset.univ) row_access_subset) $$ Hs0; iintro Hs0
  rw [wp_ret]; imodintro
  iapply Hk
  unfold Φ₁
  rw [show (dats m 0 c).owed t0_0.succ = Omid c from rfl]
  isplitl [Hs0 Hpl Hct Hid Hcr]
  · isplitl [Hs0]
    · unfold acc0
      iapply (store_rows c 0 fullShare inb_S4x2x1024_S1x1x1024_0_0_0 inb_S4x2x1024_S1x1x1024_0_1_0)
      unfold slotPts; iexact Hs0
    isplitl [Hpl Hct Hid]
    · iexists K
      isplitr; · iexact HR
      isplitl [Hpl]; · iexact Hpl
      isplitl [Hct] <;> iassumption
    isplitl [Hcr]; · iexact Hcr
    iexact Hlev
  isplitl [HO]
  · iexists W
    isplitr; · ipureintro; exact fun _ _ => Or.inl trivial
    iexact HO
  iexact Hx

end Cert.KernelIdeal.Proto

end
-- ==== Proof.KernelIdealSecond.lean ====
/-
The kernel body at the second grid point: the second chunk merged into slot 0, the barrier wait, the three copies out, the
three waits for the blocks of the peers, their combination stored to the result, and the three waits for the copies to have
left.
-/
module

public import proofs.«01_k».proof.Proof.KernelIdealFirst

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem read_x1 (f : (cc0_stg0_1 : Ref sig .tc).ty.Contents (Elt F)) :
    (Memref.whole cc0_stg0_1 : Memref sig .tc .vmem S1024x1024 .bf16).view.readAt (Elt F)
      (Rect.unit (s := S1024x1024) ![0, 0] S1024x1024.size inb_S1024x1024_S1024x1024_0_0).toLoadRect f = f :=
  Memref.readAt_unit_zero (Elt F) cc0_stg0_1 hz _ f

theorem read_row0 {k : Nat} {h} (X : S2x1024.Idx → Elt F .f32) : rM.view.readAt (Elt F) (rowR k 0 h).toLoadRect (lift X) = row 0 X := read_row (r := 0) X
theorem read_row1 {k : Nat} {h} (X : S2x1024.Idx → Elt F .f32) : rM.view.readAt (Elt F) (rowR k 1 h).toLoadRect (lift X) = row 1 X := read_row (r := 1) X

/-- A load of row 0 of a slot that holds `X`. -/
theorem wp_load_row0 (c : Dev nD) (k : Nat) (q : PosShare TreeShare) (X : S2x1024.Idx → Elt F .f32) (h) {hl : rM.view.LoadsAt (rowR k 0 h).toLoadRect}
    {α : Type} {Q : α → sProp 𝕄} {kont : (S1x1x1024.Idx → Elt F .f32) → Prog (TpuEff nD τ sig (Elt F) Λ₀ .tc) α} :
    (slotPts c k q (lift X) : sProp 𝕄)
      ⊢ iprop((slotPts c k q (lift X) -∗ wp frame (wpE (defs₀ (F := F)) 𝒱₀ (c : Thread nD τ) none) Set.univ (kont (row 0 X)) Q)
          -∗ wp frame (wpE (defs₀ (F := F)) 𝒱₀ (c : Thread nD τ) none) Set.univ (.op (.load rM (rowR k 0 h).toLoadRect hl) kont) Q) := by
  rw [← read_row0 (k := k) (h := h) X]; unfold slotPts
  exact wp_load 𝒱₀ (c : Thread nD τ) none Set.univ (m := rM) row_set_subset
/-- A load of row 1 of a slot that holds `X`. -/
theorem wp_load_row1 (c : Dev nD) (k : Nat) (q : PosShare TreeShare) (X : S2x1024.Idx → Elt F .f32) (h) {hl : rM.view.LoadsAt (rowR k 1 h).toLoadRect}
    {α : Type} {Q : α → sProp 𝕄} {kont : (S1x1x1024.Idx → Elt F .f32) → Prog (TpuEff nD τ sig (Elt F) Λ₀ .tc) α} :
    (slotPts c k q (lift X) : sProp 𝕄)
      ⊢ iprop((slotPts c k q (lift X) -∗ wp frame (wpE (defs₀ (F := F)) 𝒱₀ (c : Thread nD τ) none) Set.univ (kont (row 1 X)) Q)
          -∗ wp frame (wpE (defs₀ (F := F)) 𝒱₀ (c : Thread nD τ) none) Set.univ (.op (.load rM (rowR k 1 h).toLoadRect hl) kont) Q) := by
  rw [← read_row1 (k := k) (h := h) X]; unfold slotPts
  exact wp_load 𝒱₀ (c : Thread nD τ) none Set.univ (m := rM) row_set_subset

/-- Nothing is owed after the second grid point. -/
theorem owes_last (c : Dev nD) (W : Waits sig Unit) : (owes (c : Thread nD τ) 0 W : sProp 𝕄) ⊢ (dats m 0 c).owesAt () t0_1.succ := by
  unfold Dat.owesAt Pipeline.owesWithin
  rw [show (dats m 0 c).owed t0_1.succ = 0 from rfl]
  iintro HO; iexists W
  isplitr; · ipureintro; exact fun _ _ => Or.inl trivial
  iexact HO

/-- What is owed before the second grid point. -/
theorem owes_mid (c : Dev nD) : (dats m 0 c).owesAt () t0_1.castSucc ⊢ (iprop(∃ W, owes (c : Thread nD τ) (Omid c) W) : sProp 𝕄) := by
  unfold Dat.owesAt Pipeline.owesWithin
  rw [show (dats m 0 c).owed t0_1.castSucc = Omid c from rfl]
  iintro ⟨%W, -, HO⟩; iexists W; iexact HO

/-! Which of the body's branches the second grid point takes. -/
theorem second_c1 : ¬ k0_cond1 (grid0.coords t0_1) = 1#1 := by decide
theorem second_c2 : ¬ Scalar.cmpi .ne (Scalar.extui (Scalar.cmpi .eq (BitVec.ofNat 32 ((grid0.coords t0_1) 0).val) 0#32) : BitVec 32) 0#32 = 1#1 := by decide
theorem second_c3 : Scalar.cmpi .ne (Scalar.extui (Scalar.cmpi .sgt (BitVec.ofNat 32 ((grid0.coords t0_1) 0).val) 0#32) : BitVec 32) 0#32 = 1#1 := by decide
theorem second_c4 : k0_cond4 (grid0.coords t0_1) = 1#1 := by decide

set_option maxHeartbeats 3200000 in
theorem sound_second (c : Dev nD) (Kt : PUnit → sProp 𝕄) :
    iprop(Φ₁ m c ∗ (dats m 0 c).owesAt () t0_1.castSucc
        ∗ (((c : Thread nD τ).loc cc0_stg0_1) ↦{fullShare} (xb m c t0_1 : (cc0_stg0_1 : Ref sig .tc).ty.Contents (Elt F)))
        ∗ (∃ g : (cc0_stg1_0 : Ref sig .tc).ty.Contents (Elt F), ((c : Thread nD τ).loc cc0_stg1_0) ↦{fullShare} g)
        ∗ ((Φ₂ c ∗ (dats m 0 c).owesAt () t0_1.succ
            ∗ (((c : Thread nD τ).loc cc0_stg0_1) ↦{fullShare} (xb m c t0_1 : (cc0_stg0_1 : Ref sig .tc).ty.Contents (Elt F)))
            ∗ (((c : Thread nD τ).loc cc0_stg1_0) ↦{fullShare} (outAt m c : (cc0_stg1_0 : Ref sig .tc).ty.Contents (Elt F)))) -∗ Kt ⟨⟩))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [dif_neg second_c1, dif_neg second_c2, dif_pos second_c3, dif_pos second_c4]
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  unfold Φ₁ places copyToks creds
  iintro ⟨⟨Hs0, ⟨%K, #HR, ⟨HaB, ⟨HaS0, HaS1, HaS2⟩, HaV0, HaV1, HaV2⟩, ⟨⟨HtS0, HtS1, HtS2⟩, HtV0, HtV1, HtV2⟩, Hid⟩, ⟨HcB, HcV0, HcV1, HcV2⟩, #Hlev⟩,
    HO, Hx, ⟨%g, Hout⟩, Hk⟩
  ihave HO := (owes_mid m c) $$ HO
  icases HO with ⟨%W, HO⟩
  iapply (wp_load 𝒱₀ (c : Thread nD τ) none Set.univ (m := Memref.whole cc0_stg0_1) (Finset.subset_univ _)) $$ Hx; iintro Hx
  rw [read_x1]
  -- the merge of the second chunk
  iapply (wp_load_row0 c 0 fullShare (acc0 m c) inb_S4x2x1024_S1x1x1024_0_0_0) $$ Hs0; iintro Hs0
  iapply (wp_load_row0 c 0 fullShare (acc0 m c) inb_S4x2x1024_S1x1x1024_0_0_0) $$ Hs0; iintro Hs0
  unfold slotPts
  iapply (wp_store 𝒱₀ (c : Thread nD τ) none Set.univ (m := rM) (r := rowR 0 0 inb_S4x2x1024_S1x1x1024_0_0_0) (Mk := Finset.univ) row_access_subset) $$ Hs0; iintro Hs0
  iapply (wp_load 𝒱₀ (c : Thread nD τ) none Set.univ (m := rM) row_set_subset) $$ Hs0; iintro Hs0
  rw [read_row1_of_write_row0, read_row1]
  iapply (wp_load 𝒱₀ (c : Thread nD τ) none Set.univ (m := rM) row_set_subset) $$ Hs0; iintro Hs0
  iapply (wp_store 𝒱₀ (c : Thread nD τ) none Set.univ (m := rM) (r := rowR 0 1 inb_S4x2x1024_S1x1x1024_0_1_0) (Mk := Finset.univ) row_access_subset) $$ Hs0; iintro Hs0
  ihave Hs := (store_rows c 0 fullShare inb_S4x2x1024_S1x1x1024_0_0_0 inb_S4x2x1024_S1x1x1024_0_1_0
      (f := lift (acc0 m c)) (u := k0_pay8 (xb m c t0_1) (row 0 (acc0 m c)))
      (v := k0_pay9 (grid0.coords t0_1) c (xb m c t0_1) (row 0 (acc0 m c)) (row 1 (acc0 m c)))) $$ [Hs0]
  · unfold slotPts; iexact Hs0
  ihave Hs := (Entails.of_eq (show (slotPts c 0 fullShare (lift (rows2 (k0_pay8 (xb m c t0_1) (row 0 (acc0 m c)))
      (k0_pay9 (grid0.coords t0_1) c (xb m c t0_1) (row 0 (acc0 m c)) (row 1 (acc0 m c))))) : sProp 𝕄) = slotPts c 0 fullShare (lift (acc1 m c)) from rfl)) $$ Hs
  -- the barrier wait: a slot of each peer
  iapply (wp_bar_wait m K c _ (by decide) (Omid c) W) $$ [HcB HO HaB]
  · isplitr; · iexact HR
    isplitl [HcB]; · iexact HcB
    isplitl [HO]; · iexact HO
    isplitr; · iapply (mayWait_bar c); iexact Hlev
    iexact HaB
  iintro ⟨HO, HaB, Hb0, Hb1, Hb2⟩
  unfold barPay
  icases Hb0 with ⟨⟨%f0, Hp0⟩, -⟩
  icases Hb1 with ⟨⟨%f1, Hp1⟩, -⟩
  icases Hb2 with ⟨⟨%f2, Hp2⟩, -⟩
  -- slot 0 at four shares
  ihave Hq := (quarters c 0 (lift (acc1 m c))).1 $$ Hs
  icases Hq with ⟨⟨Hq0, Hq1⟩, Hq2, Hq3⟩
  -- the three copies
  iapply (wp_copy m K c _ 0 (dev4_eq (grid0.coords t0_1) c second_c4) 1 rfl inb_S4x2x1024_S1x2x1024_0_0_0 inb_S4x2x1024_S1x2x1024_1_0_0 (Ob c) rfl f0 _) $$ [Hq0 Hp0 HO HtS0 HtV0]
  · isplitr; · iexact HR
    isplitl [Hq0]; · iexact Hq0
    isplitl [Hp0]; · iexact Hp0
    isplitl [HO]; · iexact HO
    isplitl [HtS0] <;> iassumption
  iintro ⟨HcS0, HO⟩
  iapply (wp_copy m K c _ 1 (dev5_eq (grid0.coords t0_1) c second_c4) 2 rfl inb_S4x2x1024_S1x2x1024_0_0_0 inb_S4x2x1024_S1x2x1024_2_0_0 (Oa c) rfl f1 _) $$ [Hq1 Hp1 HO HtS1 HtV1]
  · isplitr; · iexact HR
    isplitl [Hq1]; · iexact Hq1
    isplitl [Hp1]; · iexact Hp1
    isplitl [HO]; · iexact HO
    isplitl [HtS1] <;> iassumption
  iintro ⟨HcS1, HO⟩
  iapply (wp_copy m K c _ 2 (dev6_eq (grid0.coords t0_1) c second_c4) 3 rfl inb_S4x2x1024_S1x2x1024_0_0_0 inb_S4x2x1024_S1x2x1024_3_0_0 0 (show Oa c = 0 + tallyAt (recvCell (peer 2 c) 2) () N from (zero_add _).symm) f2 _) $$ [Hq2 Hp2 HO HtS2 HtV2]
  · isplitr; · iexact HR
    isplitl [Hq2]; · iexact Hq2
    isplitl [Hp2]; · iexact Hp2
    isplitl [HO]; · iexact HO
    isplitl [HtS2] <;> iassumption
  iintro ⟨HcS2, HO⟩
  -- the three arrivals
  iapply (wp_wait_recv m K c 0 _ (credit_slot 1 inb_S4x2x1024_S1x2x1024_1_0_0)) $$ [HcV0 HO HaV0]
  · isplitr; · iexact HR
    isplitl [HcV0]; · iexact HcV0
    isplitl [HO] <;> iassumption
  iintro ⟨HO, HzV0, Hl1⟩
  ihave Hl1 := (Entails.of_eq (show (slotPts c ((0 : Fin 3).val + 1) fullShare (lift (landed m c 0)) : sProp 𝕄) = slotPts c 1 fullShare (lift (landed m c 0)) from rfl)) $$ Hl1
  iapply (wp_wait_recv m K c 1 _ (credit_slot 2 inb_S4x2x1024_S1x2x1024_2_0_0)) $$ [HcV1 HO HaV1]
  · isplitr; · iexact HR
    isplitl [HcV1]; · iexact HcV1
    isplitl [HO] <;> iassumption
  iintro ⟨HO, HzV1, Hl2⟩
  ihave Hl2 := (Entails.of_eq (show (slotPts c ((1 : Fin 3).val + 1) fullShare (lift (landed m c 1)) : sProp 𝕄) = slotPts c 2 fullShare (lift (landed m c 1)) from rfl)) $$ Hl2
  iapply (wp_wait_recv m K c 2 _ (credit_slot 3 inb_S4x2x1024_S1x2x1024_3_0_0)) $$ [HcV2 HO HaV2]
  · isplitr; · iexact HR
    isplitl [HcV2]; · iexact HcV2
    isplitl [HO] <;> iassumption
  iintro ⟨HO, HzV2, Hl3⟩
  ihave Hl3 := (Entails.of_eq (show (slotPts c ((2 : Fin 3).val + 1) fullShare (lift (landed m c 2)) : sProp 𝕄) = slotPts c 3 fullShare (lift (landed m c 2)) from rfl)) $$ Hl3
  -- the rows of the four blocks
  iapply (wp_load_row0 c 0 kept (acc1 m c) inb_S4x2x1024_S1x1x1024_0_0_0) $$ Hq3; iintro Hq3
  iapply (wp_load_row1 c 0 kept (acc1 m c) inb_S4x2x1024_S1x1x1024_0_1_0) $$ Hq3; iintro Hq3
  iapply (wp_load_row0 c 1 fullShare (landed m c 0) inb_S4x2x1024_S1x1x1024_1_0_0) $$ Hl1; iintro Hl1
  iapply (wp_load_row1 c 1 fullShare (landed m c 0) inb_S4x2x1024_S1x1x1024_1_1_0) $$ Hl1; iintro Hl1
  iapply (wp_load_row0 c 2 fullShare (landed m c 1) inb_S4x2x1024_S1x1x1024_2_0_0) $$ Hl2; iintro Hl2
  iapply (wp_load_row1 c 2 fullShare (landed m c 1) inb_S4x2x1024_S1x1x1024_2_1_0) $$ Hl2; iintro Hl2
  iapply (wp_load_row0 c 3 fullShare (landed m c 2) inb_S4x2x1024_S1x1x1024_3_0_0) $$ Hl3; iintro Hl3
  iapply (wp_load_row1 c 3 fullShare (landed m c 2) inb_S4x2x1024_S1x1x1024_3_1_0) $$ Hl3; iintro Hl3
  -- the result
  iapply (wp_load 𝒱₀ (c : Thread nD τ) none Set.univ (m := oM) (Finset.subset_univ _)) $$ Hout; iintro Hout
  iapply (wp_store 𝒱₀ (c : Thread nD τ) none Set.univ (m := oM) (r := outR 0 inb_S2x1024_S1x1024_0_0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := outR 1 inb_S2x1024_S1x1024_1_0) (Mk := Finset.univ) (Finset.subset_univ _)) $$ Hout; iintro Hout
  rw [write_out]
  -- the three copies have left
  iapply (wp_wait_send m K c 0 _ (credit_slot 0 inb_S4x2x1024_S1x2x1024_0_0_0)) $$ [HcS0 HO HaS0]
  · isplitr; · iexact HR
    isplitl [HcS0]; · iexact HcS0
    isplitl [HO] <;> iassumption
  iintro ⟨HO, HzS0, Hq0⟩
  iapply (wp_wait_send m K c 1 _ (credit_slot 0 inb_S4x2x1024_S1x2x1024_0_0_0)) $$ [HcS1 HO HaS1]
  · isplitr; · iexact HR
    isplitl [HcS1]; · iexact HcS1
    isplitl [HO] <;> iassumption
  iintro ⟨HO, HzS1, Hq1⟩
  iapply (wp_wait_send m K c 2 _ (credit_slot 0 inb_S4x2x1024_S1x2x1024_0_0_0)) $$ [HcS2 HO HaS2]
  · isplitr; · iexact HR
    isplitl [HcS2]; · iexact HcS2
    isplitl [HO] <;> iassumption
  iintro ⟨HO, HzS2, Hq2⟩
  -- the barrier cell closes, slot 0 is whole again
  imod (Rounds.cell_close ER (rd m) (Set.mem_univ (K (c, bI))) (fun h => h) (R := 0 + 1) (duties_later m (barCell c))) $$ [HaB] with HzB
  · isplitr; · iapply (inv_at m K (c, bI)); iexact HR
    iexact HaB
  ihave Hs0 := (quarters c 0 (lift (acc1 m c))).2 $$ [Hq0 Hq1 Hq2 Hq3]
  · isplitl [Hq0 Hq1]
    · isplitl [Hq0] <;> iassumption
    isplitl [Hq2] <;> iassumption
  ihave Hs := (join_slots c _ _ _ _) $$ [Hs0 Hl1 Hl2 Hl3]
  · isplitl [Hs0]; · iexact Hs0
    isplitl [Hl1]; · iexact Hl1
    isplitl [Hl2]; · iexact Hl2
    iexact Hl3
  rw [wp_ret]; imodintro
  ihave HO := (owes_last m c _) $$ HO
  iapply Hk
  unfold Φ₂
  isplitl [Hs HzB HzS0 HzS1 HzS2 HzV0 HzV1 HzV2 Hid]
  · isplitl [Hs]; · iexact Hs
    isplitl [HzB]; · iexact HzB
    isplitl [HzS0 HzS1 HzS2]
    · isplitl [HzS0]; · iexact HzS0
      isplitl [HzS1] <;> iassumption
    isplitl [HzV0 HzV1 HzV2]
    · isplitl [HzV0]; · iexact HzV0
      isplitl [HzV1] <;> iassumption
    iexact Hid
  isplitl [HO]; · iexact HO
  isplitl [Hx]; · iexact Hx
  iexact Hout

end Cert.KernelIdeal.Proto

end
-- ==== Proof.KernelIdealLaunch.lean ====
/-
The launch of the kernel on four devices: the body at both grid points, the cells allocated and their tokens dealt to the
devices that pay them, the credit, and the run of the whole program with the result each device ends with.
-/
module

public import proofs.«01_k».proof.Proof.KernelIdealSecond
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body at each grid point -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owns_intro (c : Dev nD) (b : Ref sig .tc) (X : b.ty.Contents (Elt F)) :
    ((((c : Thread nD τ).loc b) ↦{fullShare} X) : sProp 𝕄) ⊢ owns (Ix := Unit) (Name := ℕ) (U := UU) (Lvl := ℕ) (c : Thread nD τ) (Memref.whole b) fullShare X := by
  rw [owns_whole_eq]; iintro H; iexists X; isplitr; · (ipureintro; rfl)
  iexact H
theorem owns_elim (c : Dev nD) (b : Ref sig .tc) (X : b.ty.Contents (Elt F)) :
    (owns (Ix := Unit) (Name := ℕ) (U := UU) (Lvl := ℕ) (c : Thread nD τ) (Memref.whole b) fullShare X : sProp 𝕄) ⊢ (((c : Thread nD τ).loc b) ↦{fullShare} X) := by
  rw [owns_whole_eq]; iintro ⟨%f, %hf, H⟩; subst hf; iexact H

theorem before_x (c : Dev nD) (t : Fin cfg0.N) (d) : (dats m 0 c).before 0 t d = xb m c t := by
  unfold Dat.before; rw [if_pos (fetch0_0 t)]; rfl

theorem body_first (c : Dev nD) :
    iprop(Φ₀ m c ∗ (dats m 0 c).owesAt () t0_0.castSucc
        ∗ (∃ d, owns (c : Thread nD τ) (Memref.whole cc0_stg0_0) fullShare ((dats m 0 c).before (0 : Fin 2) t0_0 d))
        ∗ (∃ d, owns (c : Thread nD τ) (Memref.whole cc0_stg1_0) fullShare ((dats m 0 c).before (1 : Fin 2) t0_0 d)))
      ⊢ wp frame (wpE (defs₀ (F := F)) 𝒱₀ c none) Set.univ
          (cc0_body (grid0.coords t0_0) (Memref.whole cc0_stg0_0) (Memref.isWhole_whole _) (Memref.whole cc0_stg1_0) (Memref.isWhole_whole _)
            (Memref.whole cc0_scratch0) (Memref.isWhole_whole _) cc0_scratch1 cc0_scratch2)
          (fun _ => iprop(Φ₁ m c ∗ (dats m 0 c).owesAt () t0_0.succ
            ∗ owns (c : Thread nD τ) (Memref.whole cc0_stg0_0) fullShare (xb m c t0_0)
            ∗ (∃ d, owns (c : Thread nD τ) (Memref.whole cc0_stg1_0) fullShare ((dats m 0 c).before (1 : Fin 2) t0_0 d)))) := by
  iintro ⟨HΦ, HO, ⟨%d, Hx⟩, Hout⟩
  rw [before_x]
  ihave Hx := (owns_elim c cc0_stg0_0 (xb m c t0_0)) $$ Hx
  iapply (sound_first m c (Memref.whole cc0_stg1_0) (Memref.isWhole_whole _) _)
  isplitl [HΦ]; · iexact HΦ
  isplitl [HO]; · iexact HO
  isplitl [Hx]; · iexact Hx
  iintro ⟨HΦ, HO, Hx⟩
  isplitl [HΦ]; · iexact HΦ
  isplitl [HO]; · iexact HO
  isplitl [Hx]
  · iapply (owns_intro c cc0_stg0_0 (xb m c t0_0)); iexact Hx
  iexact Hout

theorem body_second (c : Dev nD) :
    iprop(Φ₁ m c ∗ (dats m 0 c).owesAt () t0_1.castSucc
        ∗ (∃ d, owns (c : Thread nD τ) (Memref.whole cc0_stg0_1) fullShare ((dats m 0 c).before (0 : Fin 2) t0_1 d))
        ∗ (∃ d, owns (c : Thread nD τ) (Memref.whole cc0_stg1_0) fullShare ((dats m 0 c).before (1 : Fin 2) t0_1 d)))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            (Memref.whole cc0_scratch0) (Memref.isWhole_whole _) cc0_scratch1 cc0_scratch2)
          (fun _ => iprop(Φ₂ c ∗ (dats m 0 c).owesAt () t0_1.succ
            ∗ owns (c : Thread nD τ) (Memref.whole cc0_stg0_1) fullShare (xb m c t0_1)
            ∗ owns (c : Thread nD τ) (Memref.whole cc0_stg1_0) fullShare (outAt m c))) := by
  iintro ⟨HΦ, HO, ⟨%d, Hx⟩, ⟨%d', Hout⟩⟩
  rw [before_x]
  ihave Hx := (owns_elim c cc0_stg0_1 (xb m c t0_1)) $$ Hx
  ihave Hout := (owns_elim c cc0_stg1_0 _) $$ Hout
  iapply (sound_second m c _)
  isplitl [HΦ]; · iexact HΦ
  isplitl [HO]; · iexact HO
  isplitl [Hx]; · iexact Hx
  isplitl [Hout]; · iexists _; iexact Hout
  iintro ⟨HΦ, HO, Hx, Hout⟩
  isplitl [HΦ]; · iexact HΦ
  isplitl [HO]; · iexact HO
  isplitl [Hx]
  · iapply (owns_intro c cc0_stg0_1 (xb m c t0_1)); iexact Hx
  iapply (owns_intro c cc0_stg1_0 (outAt m c)); iexact Hout

/-- The body meets its obligation at both points. -/
theorem body_obligation (c : Dev nD) : BodyObligation (dats (F := F) m 0 c) (defs₀ (F := F)) 𝒱₀ () Set.univ := fun t => by
  rcases fin_N0 t with rfl | rfl
  · rw [bigSep_W0, bigSep_W0]
    exact body_first m c
  · rw [bigSep_W0, bigSep_W0]
    exact body_second m c

/-! ## The cells and their tokens -/

abbrev osem : Fin 8 → SemLoc sig := fun k => .dma (⟨3 + k.val, by omega⟩ : Fin 11)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl
def ringCells : Finset (GSem nD τ sig) := Finset.univ.map ⟨kcell, kcell_injective⟩

/-- The duties of a device's own cells: the three of its barrier cell, one of each cell for leaving and arriving copies. -/
abbrev TI : Type := Fin 3 ⊕ Fin 3 ⊕ Fin 3
abbrev tsem : TI → SemLoc sig × Fin 3 := fun
  | .inl e => (.reg barS, e)
  | .inr (.inl d) => (.dma (sendS d), 0)
  | .inr (.inr d) => (.dma (recvS d), 0)
theorem tsem_injective : Function.Injective tsem := by decide
abbrev tokOf (cj : Dev nD × TI) : GSem nD τ sig × ℕ × Fin 3 := (((cj.1 : Thread nD τ), (tsem cj.2).1), 0, (tsem cj.2).2)
theorem tokOf_injective : Function.Injective (tokOf : Dev nD × TI → GSem nD τ sig × ℕ × Fin 3) := by
  rintro ⟨c, j⟩ ⟨c', j'⟩ h
  have h1 : c = c' := by have := congrArg (fun x : GSem nD τ sig × ℕ × Fin 3 => x.1.1.1) h; exact this
  subst h1
  have : j = j' := tsem_injective (Prod.ext (congrArg (fun x : GSem nD τ sig × ℕ × Fin 3 => x.1.2) h) (congrArg (fun x : GSem nD τ sig × ℕ × Fin 3 => x.2.2) h))
  subst this; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 2 ∗ dutyTok ER (barCell c) 0 1 ∗ dutyTok ER (barCell c) 0 0)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))

/-- What the launch element deals device `c`. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

theorem bigSep_CI (Φ : CI → sProp 𝕄) : bigSep Finset.univ Φ
    = iprop(Φ bI ∗ Φ (sI 0) ∗ Φ (sI 1) ∗ Φ (sI 2) ∗ Φ (vI 0) ∗ Φ (vI 1) ∗ Φ (vI 2)) :=
  bigSep_univ_eq_bigSepL [bI, sI 0, sI 1, sI 2, vI 0, vI 1, vI 2] (by decide) (by decide) Φ
theorem bigSep_TI (Φ : TI → sProp 𝕄) : bigSep Finset.univ Φ
    = iprop(Φ (.inl 2) ∗ Φ (.inl 1) ∗ Φ (.inl 0) ∗ Φ (.inr (.inl 0)) ∗ Φ (.inr (.inl 1)) ∗ Φ (.inr (.inl 2))
        ∗ Φ (.inr (.inr 0)) ∗ Φ (.inr (.inr 1)) ∗ Φ (.inr (.inr 2))) :=
  bigSep_univ_eq_bigSepL ([.inl 2, .inl 1, .inl 0, .inr (.inl 0), .inr (.inl 1), .inr (.inl 2), .inr (.inr 0), .inr (.inr 1), .inr (.inr 2)] : List TI) (by decide) (by decide) Φ

theorem toks_of (c : Dev nD) : (bigSep Finset.univ fun j : TI => (dutyTok ER (tokOf (c, j)).1 (tokOf (c, j)).2.1 (tokOf (c, j)).2.2 : sProp 𝕄)) ⊢ toks c := by
  rw [bigSep_TI]; unfold toks
  iintro ⟨H1, H2, H3, H4, H5, H6, H7, H8, H9⟩
  isplitl [H1 H2 H3]
  · isplitl [H1]; · iexact H1
    isplitl [H2] <;> iassumption
  isplitl [H4 H5 H6]
  · isplitl [H4]; · iexact H4
    isplitl [H5] <;> iassumption
  isplitl [H7]; · iexact H7
  isplitl [H8] <;> iassumption

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores: the two of its arrays that no copy uses, and the six that count copies. -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (⟨3, by decide⟩ : Fin 11)) 0
        ∗ semVal (sendCell c 0) 0 ∗ semVal (sendCell c 1) 0 ∗ semVal (sendCell c 2) 0
        ∗ semVal ((c : Thread nD τ), SemLoc.dma (⟨7, by decide⟩ : Fin 11)) 0
        ∗ semVal (recvCell c 0) 0 ∗ semVal (recvCell c 1) 0 ∗ semVal (recvCell c 2) 0) := by
  rw [Pipeline.ownSems0_eq_of_list c osem [0, 1, 2, 3, 4, 5, 6, 7] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ idleSems c) : sProp 𝕄) := by
  rw [ownSems0_eq, unscopedSems0_eq, bigSep_CI]; unfold idleSems
  iintro ⟨⟨H3, HS0, HS1, HS2, H7, HV0, HV1, HV2⟩, HB⟩
  isplitr [H3 H7]
  · isplitl [HB]; · iexact HB
    isplitl [HS0]; · iexact HS0
    isplitl [HS1]; · iexact HS1
    isplitl [HS2]; · iexact HS2
    isplitl [HV0]; · iexact HV0
    isplitl [HV1] <;> iassumption
  isplitl [H3] <;> iassumption

/-- What device `c` holds once its cells are allocated. -/
abbrev mid (c : Dev nD) : sProp 𝕄 :=
  iprop((bigSep Finset.univ fun k : CI => iprop(∃ κ : ℕ, cellInv ER (rd m) κ (kcell (c, k))))
    ∗ (bigSep Finset.univ fun k : CI => iprop(atPos ER (kcell (c, k)) 0 ∅ 0 ∗ reached ER (kcell (c, k)) 0)) ∗ toks c ∗ idleSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> mid m c := by
  unfold G mid
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with device `c`: its places, the tokens of the duties that it pays, its two idle semaphores. -/
def linear (c : Dev nD) : sProp 𝕄 :=
  iprop((bigSep Finset.univ fun k : CI => atPos ER (kcell (c, k)) 0 ∅ 0) ∗ (barToks c ∗ copyToks c) ∗ idleSems c)

theorem ghost_intro (K : Dev nD × CI → ℕ) (c : Dev nD) : iprop(records m K ∗ linear c) ⊢ G' m c := by
  unfold linear G' places
  rw [bigSep_CI]
  iintro ⟨#HR, ⟨HaB, HaS0, HaS1, HaS2, HaV0, HaV1, HaV2⟩, ⟨Hb, Hc⟩, Hid⟩
  iexists K
  isplitr; · iexact HR
  isplitl [Hb]; · iexact Hb
  isplitl [HaB HaS0 HaS1 HaS2 HaV0 HaV1 HaV2]
  · isplitl [HaB]; · iexact HaB
    isplitl [HaS0 HaS1 HaS2]
    · isplitl [HaS0]; · iexact HaS0
      isplitl [HaS1] <;> iassumption
    isplitl [HaV0]; · iexact HaV0
    isplitl [HaV1] <;> iassumption
  isplitl [Hc] <;> iassumption

/-- The tokens dealt around: each to the device that pays the duty. -/
theorem toks_around : (bigSep Finset.univ fun c : Dev nD => (toks c : sProp 𝕄)) ⊢ bigSep Finset.univ fun c : Dev nD => iprop(barToks c ∗ copyToks c) := by
  unfold toks barToks copyToks
  simp only [bigSep_sep']
  rw [bigSep_univ_equiv (shift 0) (fun c : Dev nD => (dutyTok ER (barCell c) 0 2 : sProp 𝕄)),
    bigSep_univ_equiv (shift 1) (fun c : Dev nD => (dutyTok ER (barCell c) 0 1 : sProp 𝕄)),
    bigSep_univ_equiv (shift 2) (fun c : Dev nD => (dutyTok ER (barCell c) 0 0 : sProp 𝕄)),
    bigSep_univ_equiv (shift 0) (fun c : Dev nD => (dutyTok ER (recvCell c 0) 0 0 : sProp 𝕄)),
    bigSep_univ_equiv (shift 1) (fun c : Dev nD => (dutyTok ER (recvCell c 1) 0 0 : sProp 𝕄)),
    bigSep_univ_equiv (shift 2) (fun c : Dev nD => (dutyTok ER (recvCell c 2) 0 0 : sProp 𝕄))]
  iintro ⟨⟨H1, H2, H3⟩, ⟨H4, H5, H6⟩, H7, H8, H9⟩
  isplitl [H1 H2 H3]
  · isplitl [H1]; · iexact H1
    isplitl [H2]; · iexact H2
    iexact H3
  isplitl [H4 H5 H6]
  · isplitl [H4]; · iexact H4
    isplitl [H5] <;> iassumption
  isplitl [H7]; · iexact H7
  isplitl [H8]; · iexact H8
  iexact H9

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => mid m c) ⊢ bigSep Finset.univ (G' m) := by
  unfold mid
  rw [bigSep_sep', bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hid⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show (iprop((bigSep Finset.univ fun c : Dev nD => bigSep Finset.univ fun k : CI => atPos ER (kcell (c, k)) 0 ∅ 0)
        ∗ (bigSep Finset.univ fun c : Dev nD => iprop(barToks c ∗ copyToks c)) ∗ bigSep Finset.univ fun c : Dev nD => idleSems c) : sProp 𝕄)
        ⊢ bigSep Finset.univ fun c : Dev nD => linear c from by
      unfold linear; simp only [bigSep_sep']; exact BI.Entails.refl _)
    isplitl [Hat]; · iexact Hat
    isplitl [Htk] <;> iassumption

/-- All devices' cells are allocated at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_ne_recv (a b : Dev nD) (d : Fin 3) : barCell a ≠ recvCell b d := fun h => by
  have h2 : SemLoc.reg barS = SemLoc.dma (recvS d) := congrArg Prod.snd h
  cases h2
theorem bar_inj {a b : Dev nD} (h : barCell a = barCell b) : a = b := congrArg (fun g : GSem nD τ sig => g.1.1) h
theorem recv_inj {a b : Dev nD} {d e : Fin 3} (h : recvCell a d = recvCell b e) : a = b ∧ d = e := by
  refine ⟨congrArg (fun g : GSem nD τ sig => g.1.1) h, ?_⟩
  have h2 : csem (vI d) = csem (vI e) := congrArg Prod.snd h
  have h3 := csem_injective h2
  cases h3; rfl

theorem at_bar (a c : Dev nD) (n : ℕ) : (tallyAt (barCell a) () n : CellTallies nD τ sig Unit) (barCell c) () = if a = c then n else 0 := by
  by_cases h : a = c
  · subst h; rw [tallyAt_apply, if_pos ⟨rfl, rfl⟩, if_pos rfl]
  · rw [tallyAt_apply, if_neg (fun h' => h (bar_inj h'.1).symm), if_neg h]
theorem at_recv (a c : Dev nD) (d e : Fin 3) (n : ℕ) : (tallyAt (recvCell a d) () n : CellTallies nD τ sig Unit) (recvCell c e) () = if a = c ∧ d = e then n else 0 := by
  by_cases h : a = c ∧ d = e
  · obtain ⟨rfl, rfl⟩ := h; rw [tallyAt_apply, if_pos ⟨rfl, rfl⟩, if_pos ⟨rfl, rfl⟩]
  · rw [tallyAt_apply, if_neg (fun h' => h ⟨(recv_inj h'.1).1.symm, (recv_inj h'.1).2.symm⟩), if_neg h]
theorem at_bar_recv (a c : Dev nD) (d : Fin 3) (n : ℕ) : (tallyAt (recvCell a d) () n : CellTallies nD τ sig Unit) (barCell c) () = 0 := by
  rw [tallyAt_apply, if_neg (fun h' => bar_ne_recv _ _ _ h'.1)]
theorem at_recv_bar (a c : Dev nD) (d : Fin 3) (n : ℕ) : (tallyAt (barCell a) () n : CellTallies nD τ sig Unit) (recvCell c d) () = 0 := by
  rw [tallyAt_apply, if_neg (fun h' => bar_ne_recv _ _ _ h'.1.symm)]

/-- What device `a` owes device `c`'s barrier cell. -/
theorem owed_bar (a c : Dev nD) : O₀ a (barCell c) () = ((if peer 2 a = c then 1 else 0) + (if peer 1 a = c then 1 else 0)) + (if peer 0 a = c then 1 else 0) := by
  unfold O₀ Od Oc Omid Ob Oa
  simp only [Pi.add_apply, Finsupp.add_apply, at_bar, at_bar_recv, Nat.zero_add]
/-- What it owes device `c`'s arrival cells. -/
theorem owed_recv (a c : Dev nD) (e : Fin 3) : O₀ a (recvCell c e) ()
    = ((if peer 2 a = c ∧ 2 = e then N else 0) + (if peer 1 a = c ∧ 1 = e then N else 0)) + (if peer 0 a = c ∧ 0 = e then N else 0) := by
  unfold O₀ Od Oc Omid Ob Oa
  simp only [Pi.add_apply, Finsupp.add_apply, at_recv, at_recv_bar, Nat.add_zero]

theorem sum_bar (c : Dev nD) : (Finset.univ.sum fun a : Dev nD => O₀ a (barCell c) ()) = 3 := by
  rw [Finset.sum_congr rfl fun a _ => owed_bar a c]; revert c; decide
theorem sum_peer (c : Dev nD) (d : Fin 3) (n : ℕ) : (Finset.univ.sum fun a : Dev nD => if peer d a = c then n else 0) = n := by
  rw [Finset.sum_eq_single (peer (opp d) c) (fun a _ ha => if_neg fun h => ha (by rw [← h, peer_opp])) (fun h => absurd (Finset.mem_univ _) h), if_pos (opp_peer d c)]
theorem sum_recv (c : Dev nD) (e : Fin 3) : (Finset.univ.sum fun a : Dev nD => O₀ a (recvCell c e) ()) = N := by
  rw [Finset.sum_congr rfl fun a _ => owed_recv a c e]
  have h1 : e = 0 ∨ e = 1 ∨ e = 2 := by revert e; decide
  rcases h1 with rfl | rfl | rfl
  · refine Eq.trans (Finset.sum_congr rfl fun a _ => ?_) (sum_peer c 0 N); simp
  · refine Eq.trans (Finset.sum_congr rfl fun a _ => ?_) (sum_peer c 1 N); simp
  · refine Eq.trans (Finset.sum_congr rfl fun a _ => ?_) (sum_peer c 2 N); simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]; exact sum_bar c
theorem launch_recv (c : Dev nD) (e : Fin 3) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same]; exact sum_recv c e

theorem creds_intro (c : Dev nD) : (Pipeline.launchCred O₀ c : sProp 𝕄) ⊢ creds c := by
  unfold Pipeline.launchCred creds
  rw [← launch_bar, ← launch_recv, ← launch_recv, ← launch_recv]
  have h : (bigSep ({SemLoc.reg barS, .dma (recvS 0), .dma (recvS 1), .dma (recvS 2)} : Finset (SemLoc sig)) fun sm : SemLoc sig =>
      (cred (tallyOn ((c : Thread nD τ), sm) (launchCredit (Pipeline.owing O₀) 0 ((c : Thread nD τ), sm))) : sProp 𝕄))
      = iprop(cred (tallyOn (barCell c) (launchCredit (Pipeline.owing O₀) 0 (barCell c)))
        ∗ cred (tallyOn (recvCell c 0) (launchCredit (Pipeline.owing O₀) 0 (recvCell c 0)))
        ∗ cred (tallyOn (recvCell c 1) (launchCredit (Pipeline.owing O₀) 0 (recvCell c 1)))
        ∗ cred (tallyOn (recvCell c 2) (launchCredit (Pipeline.owing O₀) 0 (recvCell c 2)))) := by
    rw [bigSep_eq_bigSepL_of_eq [SemLoc.reg barS, .dma (recvS 0), .dma (recvS 1), .dma (recvS 2)] (by decide) (by decide)]; rfl
  rw [← h]
  exact bigSep_subset (Finset.subset_univ _)

/-! ## The conditions of the launch -/

variable (ρ : Dev nD → PrngReg)

def s₀ : MemSt nD τ sig (Elt F) := ⟨m, fun _ => 0, ρ⟩

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi2_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₂ c from rfl, scopedRest0_eq, ownSems0_eq, unscopedSems0_eq]
  unfold Φ₂ idleSems
  iintro ⟨⟨%f, Hr⟩, HB, ⟨HS0, HS1, HS2⟩, ⟨HV0, HV1, HV2⟩, H3, H7⟩
  isplitl [HB]; · iexact HB
  isplitr [Hr]
  · isplitl [H3]; · iexact H3
    isplitl [HS0]; · iexact HS0
    isplitl [HS1]; · iexact HS1
    isplitl [HS2]; · iexact HS2
    isplitl [H7]; · iexact H7
    isplitl [HV0]; · iexact HV0
    isplitl [HV1] <;> iassumption
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _ | _, ht⟩
      · exact Or.inl rfl
      · exact Or.inr (Or.inl rfl)
      · exact Or.inr (Or.inr rfl))

/-! ## The run -/

def finalA (c : Dev nD) (w : Fin cfg0.W) : Buf (Elt F) ((cfg0.win w).arr.view.loc (c : Thread nD τ)) := (dats m 0 c).arrAt w cfg0.N

set_option maxRecDepth 8000 in
/-- Every execution of the program on the four devices ends; then every device's arrays hold the contents computed, and
    every semaphore counter is zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi2_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_x (c : Dev nD) : finalA m c (0 : Fin 2) = m ((c : Thread nD τ).loc main_arg0) :=
  (dats (F := F) m 0 c).arrAt_in (0 : Fin 2) rfl _

end Cert.KernelIdeal.Proto

end
-- ==== Proof.KernelIdealRun.lean ====
/-
The run of the program on the four devices: every device's result array ends at the combination of the four devices' blocks,
its argument as it was, every semaphore counter at zero.
-/
module

public import proofs.«01_k».proof.Proof.KernelIdealLaunch
public import Idealize.ShloMosaic.Lib.Pipeline.ValueKit

@[expose] public section

noncomputable section

namespace Cert.KernelIdeal.Proto

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The result array after the run: written once, whole, after the second grid point. -/
theorem finalA_out (c : Dev nD) : finalA m c (1 : Fin 2) = outAt m c := by
  refine (dats m 0 c).arrAt_eq_of_after_last (1 : Fin 2) t0_1 (by decide +kernel) _ fun j => ?_
  blk_simp
  rfl

theorem run_main : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)) ∧ r.2.sem = fun _ => 0) :=
  (θ_run defs (onTc (τ := τ) (main (F := F))) (s₀ m ρ)).mono
    (fun r h => ⟨fun c => ⟨(h.1 c 1).trans (finalA_out m c), (h.1 c 0).trans (finalA_x m c)⟩, h.2⟩) (run_arrays m ρ)

end Cert.KernelIdeal.Proto

end
-- ==== Proof.Best.lean ====
/-
The first position of the greatest value among the positions that satisfy a condition: there is one at most, and the one for two
conditions together is the better of the two.
-/
module

public import Idealize.ShloMosaic.PureOps.Ideal

@[expose] public section

namespace Cert.Best

variable {N : Nat}

/-- `n` is the first of the positions where `f` is greatest, among those with `S`. -/
def Best (f : Fin N → EReal) (S : Fin N → Prop) (n : Fin N) : Prop :=
  S n ∧ ∀ k, S k → f k < f n ∨ (f k = f n ∧ n ≤ k)

/-- There is one such position at most. -/
theorem Best.unique {f : Fin N → EReal} {S : Fin N → Prop} {n m : Fin N} (hn : Best f S n) (hm : Best f S m) : n = m := by
  rcases hn.2 m hm.1 with h | ⟨h, h'⟩
  · rcases hm.2 n hn.1 with g | ⟨g, g'⟩
    · exact absurd (h.trans g) (lt_irrefl _)
    · exact absurd (g ▸ h) (lt_irrefl _)
  · rcases hm.2 n hn.1 with g | ⟨g, g'⟩
    · exact absurd (h ▸ g) (lt_irrefl _)
    · exact le_antisymm h' g'

/-- The condition may be restated. -/
theorem Best.congr {f : Fin N → EReal} {S T : Fin N → Prop} {n : Fin N} (hn : Best f S n) (h : ∀ k, S k ↔ T k) : Best f T n :=
  ⟨(h n).1 hn.1, fun k hk => hn.2 k ((h k).2 hk)⟩

/-- The better one of two conditions together, when the second one wins. -/
theorem Best.take {f : Fin N → EReal} {S T : Fin N → Prop} {n m : Fin N} (hn : Best f S n) (hm : Best f T m)
    (h : f n < f m ∨ (f m = f n ∧ m < n)) : Best f (fun k => S k ∨ T k) m := by
  refine ⟨.inr hm.1, fun k hk => ?_⟩
  rcases hk with hk | hk
  · rcases h with h | ⟨h, h'⟩
    · rcases hn.2 k hk with g | ⟨g, -⟩
      · exact .inl (g.trans h)
      · exact .inl (g ▸ h)
    · rcases hn.2 k hk with g | ⟨g, g'⟩
      · exact .inl (h ▸ g)
      · exact .inr ⟨g.trans h.symm, h'.le.trans g'⟩
  · exact hm.2 k hk

/-- The better one of two conditions together, when the first one stays. -/
theorem Best.keep {f : Fin N → EReal} {S T : Fin N → Prop} {n m : Fin N} (hn : Best f S n) (hm : Best f T m)
    (h : ¬ (f n < f m ∨ (f m = f n ∧ m < n))) : Best f (fun k => S k ∨ T k) n := by
  refine ⟨.inl hn.1, fun k hk => ?_⟩
  rcases hk with hk | hk
  · exact hn.2 k hk
  · have h1 : f m ≤ f n := not_lt.1 fun h' => h (.inl h')
    rcases hm.2 k hk with g | ⟨g, g'⟩
    · exact .inl (g.trans_le h1)
    · rcases h1.lt_or_eq with h2 | h2
      · exact .inl (g ▸ h2)
      · exact .inr ⟨g.trans h2, (not_lt.1 fun h' => h (.inr ⟨h2, h'⟩)).trans g'⟩

/-- A first greatest position exists among finitely many, if there is any. -/
theorem exists_best (f : Fin N → EReal) (S : Fin N → Prop) {k : Fin N} (hk : S k) : ∃ n, Best f S n := by
  classical
  obtain ⟨a, ha, hmax⟩ := Finset.exists_max_image (Finset.univ.filter S) f ⟨k, by simpa using hk⟩
  obtain ⟨n, hn, hmin⟩ := Finset.exists_min_image (Finset.univ.filter fun i => S i ∧ f i = f a) id
    ⟨a, by simpa using ha⟩
  simp only [Finset.mem_filter, Finset.mem_univ, true_and] at ha hmax hn hmin
  refine ⟨n, hn.1, fun i hi => ?_⟩
  rcases (hmax i hi).lt_or_eq with h | h
  · exact .inl (h.trans_eq hn.2.symm)
  · exact .inr ⟨h.trans hn.2.symm, hmin i ⟨hi, h⟩⟩

end Cert.Best

end
-- ==== Proof.Columns.lean ====
/-
The maximum over the rows of a matrix, column by column, and the row that holds it, as folds over the rows in any order.
-/
module

public import proofs.«01_k».proof.Proof.Best
public import Idealize.ShloMosaic.PureOps.Ideal.Laws
public import Idealize.ShloMosaic.Lib.WordCmp
public import Idealize.ShloMosaic.Lib.Pipeline.Value

@[expose] public section

noncomputable section

namespace Cert.Columns

open Cert.Best
open Idealize.ShloMosaic

variable {R C : Nat}

/-- A matrix of `R` rows and `C` columns; one row of it. -/
abbrev Mat (R C : Nat) : Shape := ⟨2, ![R, C]⟩
abbrev Row (C : Nat) : Shape := ⟨1, ![C]⟩

/-- The index of row `r` and column `l`. -/
abbrev at2 (r : Fin R) (l : Fin C) : (Mat R C).Idx := Shape.pair (d := ![R, C]) r l

/-- Column `l` of a matrix. -/
def col {α : Type} (x : (Mat R C).Idx → α) (l : Fin C) (r : Fin R) : α := x (at2 r l)

/-- The index of column `l` of a row. -/
def k1 (l : Fin C) : (Row C).Idx := fun a => match a with | 0 => l

theorem eta_k1 (j : (Row C).Idx) : k1 (j 0) = j := by
  funext a; fin_cases a; rfl

/-- An index of the matrix goes to the index of its column. -/
theorem drop_eq (h : (Mat R C).ReducesTo [0] (Row C)) (i : (Mat R C).Idx) : h.drop i = k1 (i 1) := by
  rw [← eta_k1 (h.drop i)]
  exact congrArg k1 (Fin.ext (h.drop_apply_val_of_eq i 0 1 (Nat.lt_succ_self 0) rfl))

theorem drop_iff (h : (Mat R C).ReducesTo [0] (Row C)) (i : (Mat R C).Idx) (l : Fin C) : h.drop i = k1 l ↔ i 1 = l := by
  rw [drop_eq]
  exact ⟨fun h => congrFun h 0, fun h => congrArg k1 h⟩

theorem of_idx {α : Type} (x : (Mat R C).Idx → α) (i : (Mat R C).Idx) {l : Fin C} (h : i 1 = l) : x i = col x l (i 0) := by
  subst h
  exact congrArg x (Shape.pair_eta i).symm

/-- The greatest value of a column is the value at its first greatest row. -/
theorem fold_max_eq (h : (Mat R C).ReducesTo [0] (Row C)) (x : (Mat R C).Idx → EReal) (l : Fin C) (n : Fin R)
    (hn : Best (col x l) (fun _ => True) n) : (Finset.univ.filter fun i => h.drop i = k1 l).fold max ⊥ x = col x l n := by
  refine le_antisymm ?_ ?_
  · refine (Finset.fold_max_le _).2 ⟨bot_le, fun i hi => ?_⟩
    rw [of_idx x i ((drop_iff h i l).1 (Finset.mem_filter.1 hi).2)]
    rcases hn.2 (i 0) trivial with h | h
    · exact h.le
    · exact h.1.le
  · refine (Finset.le_fold_max _).2 (.inr ⟨at2 n l, ?_, le_rfl⟩)
    exact Finset.mem_filter.2 ⟨Finset.mem_univ _, (drop_iff h _ l).2 rfl⟩

/-- What a pair of a value and a row says of the rows listed: it is their first greatest, or still the one started from. -/
def Inv (f : Fin R → EReal) (L : List (Fin R)) (p : EReal × BitVec 32) : Prop :=
  ∃ n : Fin R, p.2 = BitVec.ofNat 32 n.val ∧ (p.1 = f n ∨ (p.1 = ⊥ ∧ n.val = 0)) ∧ ∀ k ∈ L, f k < p.1 ∨ (f k = p.1 ∧ n ≤ k)

/-- A reducer that keeps the better one of two pairs, on rows numbered below `R`. -/
def Keeps (R : Nat) (red : EReal × BitVec 32 → EReal × BitVec 32 → EReal × BitVec 32) : Prop :=
  ∀ (v w : EReal) (n k : Nat), n < R → k < R → red (v, BitVec.ofNat 32 n) (w, BitVec.ofNat 32 k)
    = if w < v ∨ (w = v ∧ n ≤ k) then (v, BitVec.ofNat 32 n) else (w, BitVec.ofNat 32 k)

variable {red : EReal × BitVec 32 → EReal × BitVec 32 → EReal × BitVec 32}

theorem inv_step (hred : Keeps R red) (f : Fin R → EReal) (L : List (Fin R)) (p : EReal × BitVec 32) (k : Fin R) (h : Inv f L p) :
    Inv f (L ++ [k]) (red p (f k, BitVec.ofNat 32 k.val)) := by
  obtain ⟨n, h2, h1, hL⟩ := h
  obtain ⟨v, w⟩ := p
  simp only at h1 h2 hL
  subst h2
  rw [hred _ _ _ _ n.isLt k.isLt]
  split
  · next hk =>
    refine ⟨n, rfl, h1, fun j hj => ?_⟩
    rcases List.mem_append.1 hj with hj | hj
    · exact hL j hj
    · rw [List.mem_singleton.1 hj]; exact hk
  · next hk =>
    refine ⟨k, rfl, .inl rfl, fun j hj => ?_⟩
    rcases List.mem_append.1 hj with hj | hj
    · have h1 : v ≤ f k := not_lt.1 fun h' => hk (.inl h')
      rcases hL j hj with g | ⟨g, g'⟩
      · exact .inl (g.trans_le h1)
      · rcases h1.lt_or_eq with h2 | h2
        · exact .inl (g ▸ h2)
        · exact .inr ⟨g.trans h2, (not_le.1 fun h' => hk (.inr ⟨h2.symm, h'⟩)).le.trans g'⟩
    · rw [List.mem_singleton.1 hj]; exact .inr ⟨rfl, le_rfl⟩

theorem inv_foldl (hred : Keeps R red) (f : Fin R → EReal) (L : List (Fin R)) : ∀ (M : List (Fin R)) (p : EReal × BitVec 32), Inv f M p →
    Inv f (M ++ L) (L.foldl (fun p k => red p (f k, BitVec.ofNat 32 k.val)) p) := by
  induction L with
  | nil => intro M p h; simpa using h
  | cons k L ih =>
    intro M p h
    have := ih (M ++ [k]) _ (inv_step hred f M p k h)
    simpa using this

/-- The fold of such a reducer over all the rows, in any order, ends at the first greatest row. -/
theorem foldl_eq (hred : Keeps R red) (f : Fin R → EReal) (L : List (Fin R)) (hall : ∀ k, k ∈ L) (n : Fin R)
    (hn : Best f (fun _ => True) n) :
    (L.foldl (fun p k => red p (f k, BitVec.ofNat 32 k.val)) (⊥, 0#32)).2 = BitVec.ofNat 32 n.val := by
  have h0 : Inv f [] (⊥, 0#32) := ⟨⟨0, n.pos⟩, rfl, .inr ⟨rfl, rfl⟩, fun k hk => absurd hk List.not_mem_nil⟩
  have h := inv_foldl hred f L [] _ h0
  rw [List.nil_append] at h
  generalize L.foldl (fun p k => red p (f k, BitVec.ofNat 32 k.val)) (⊥, 0#32) = p at h
  obtain ⟨m, h2, h1, h3⟩ := h
  have key := fun k => h3 k (hall k)
  have h1' : p.1 = f m := by
    rcases h1 with h1 | ⟨h1, h1'⟩
    · exact h1
    · rcases key m with g | ⟨g, -⟩
      · rw [h1] at g; exact absurd g not_lt_bot
      · exact g.symm
  rw [h1'] at key
  rw [h2, Best.unique ⟨trivial, fun k _ => key k⟩ hn]

/-- The pairs over which a column is reduced are those of its rows, each once. -/
theorem fiber_eq (h : (Mat R C).ReducesTo [0] (Row C)) (x : (Mat R C).Idx → EReal) (l : Fin C) :
    ∃ L : List (Fin R), Host.argReduceFiber x (iotaInDim (Mat R C) 32 0) h (k1 l) = L.map (fun k => (col x l k, BitVec.ofNat 32 k.val))
      ∧ ∀ k, k ∈ L := by
  let g : Fin (Mat R C).numel → Fin R := fun n => (Mat R C).rowMajor.symm n 0
  refine ⟨((List.finRange (Mat R C).numel).filter fun n => h.drop ((Mat R C).rowMajor.symm n) = k1 l).map g, ?_, fun k => ?_⟩
  · rw [Host.argReduceFiber, List.map_map]
    refine List.map_congr_left fun a ha => ?_
    exact Prod.ext (of_idx x _ ((drop_iff h _ l).1 (of_decide_eq_true (List.mem_filter.1 ha).2))) rfl
  · refine List.mem_map.2 ⟨(Mat R C).rowMajor (at2 k l), List.mem_filter.2 ⟨List.mem_finRange _, ?_⟩, ?_⟩
    · rw [Equiv.symm_apply_apply]; exact decide_eq_true ((drop_iff h _ l).2 rfl)
    · show (Mat R C).rowMajor.symm ((Mat R C).rowMajor (at2 k l)) 0 = k
      rw [Equiv.symm_apply_apply]; rfl

/-- The second halves of pairs. -/
def seconds {ι α β : Type} (p : ι → α × β) : ι → β := fun j => (p j).2

/-- The row found in a column is its first greatest. -/
theorem argReduce_eq {φ : FTy} {u : Shape} (hred : Keeps R red) (h : (Mat R C).ReducesTo [0] (Row C)) (hu : 0 < u.numel)
    (x : FVec Ideal (Mat R C) φ) (b : FVec Ideal u φ) (z : IVec u 32) (hb : b (Shape.Idx.first hu) = (⊥ : EReal))
    (hz : z (Shape.Idx.first hu) = 0#32) (l : Fin C) (n : Fin R) (hn : Best (col x l) (fun _ => True) n) :
    seconds (Host.argReduce (F := Ideal) (φ := φ) red x (iotaInDim (Mat R C) 32 0) b z h hu) (k1 l) = BitVec.ofNat 32 n.val := by
  unfold seconds
  rw [Ideal.argReduce_eq_reduce2, Host.reduce2_eq_foldl_fiber, hb, hz]
  obtain ⟨L, hL, hall⟩ := fiber_eq h x l
  rw [hL, List.foldl_map]
  exact foldl_eq hred (col x l) L hall n hn

/-- The maximum found in a column is the value at its first greatest row. -/
theorem reduce_eq {φ : FTy} {u : Shape} (h : (Mat R C).ReducesTo [0] (Row C)) (hu : 0 < u.numel)
    (x : FVec Ideal (Mat R C) φ) (b : FVec Ideal u φ) (hb : b (Shape.Idx.first hu) = (⊥ : EReal))
    (l : Fin C) (n : Fin R) (hn : Best (col x l) (fun _ => True) n) :
    Host.reduce (FloatOps.maximumf (F := Ideal) (φ := φ)) x b h hu (k1 l) = col x l n := by
  rw [Host.reduce_eq_fold, hb]
  exact fold_max_eq h x l n hn

/-- A number below `2 ^ 31` as a word, and back. -/
theorem toInt_word {n : Nat} (h : n < 2 ^ 31) : (BitVec.ofNat 32 n).toInt = n := by
  rw [BitVec.toInt_eq_toNat_of_lt (by rw [BitVec.toNat_ofNat]; omega), BitVec.toNat_ofNat]
  omega

/-- One row laid as a matrix of one row. -/
theorem bcast_row {α : Type} (hC : C ≠ 1) (h : (Row C).BroadcastsInDim (Mat 1 C) (![1] : Fin 1 → Fin (Mat 1 C).rank))
    (y : (Row C).Idx → α) (l : Fin C) : broadcastInDim (Mat 1 C) ![1] h y (at2 (0 : Fin 1) l) = y (k1 l) := by
  refine congrArg y (funext fun a => ?_)
  fin_cases a
  exact dif_neg hC

/-- Of one row above another, row 0. -/
theorem concat0 {α : Type} (h : Shape.Concatenates [Mat 1 C, Mat 1 C] (Mat 2 C) 0) (a b : (Mat 1 C).Idx → α) (l : Fin C) :
    concatenate (Mat 2 C) 0 [⟨Mat 1 C, a⟩, ⟨Mat 1 C, b⟩] h (at2 (0 : Fin 2) l) = a (at2 (0 : Fin 1) l) :=
  concatenate_pair_apply_left (t := Mat 2 C) 0 a b h _ rfl _ fun b => by fin_cases b <;> rfl

/-- Of one row above another, row 1. -/
theorem concat1 {α : Type} (h : Shape.Concatenates [Mat 1 C, Mat 1 C] (Mat 2 C) 0) (a b : (Mat 1 C).Idx → α) (l : Fin C) :
    concatenate (Mat 2 C) 0 [⟨Mat 1 C, a⟩, ⟨Mat 1 C, b⟩] h (at2 (1 : Fin 2) l) = b (at2 (0 : Fin 1) l) :=
  concatenate_pair_apply_right (t := Mat 2 C) 0 a b h _ rfl rfl _ (fun b hb => by fin_cases b <;> first | rfl | exact absurd rfl hb) rfl

end Cert.Columns

end
-- ==== Proof.ReferenceRun.lean ====
/-
The run of the reference on its one device: a straight line of host operations, after which the result array holds `refOut` of
the argument, the argument is as it was and every semaphore counter is zero.
-/
module

public import proofs.«01_k».proof.Proof.Gen.ReferenceIdeal
public import proofs.«01_k».proof.Proof.Columns
public import Idealize.ShloMosaic.Lib.StableHlo.Run
public import Idealize.ShloMosaic.Lib.Quiescent

@[expose] public section

noncomputable section

namespace Cert.ReferenceIdeal.Host

open Cert.Columns
open Cert.ReferenceIdeal Cert.ReferenceIdeal.Gen
open Idealize.ShloMosaic Idealize.ShloMosaic.TcCoe Idealize.ShloMosaic.StableHlo Idealize.SL.Sem

variable {F : FTy → Type} [FloatOps F]

/-- Each column's maximum. -/
def colMax (x : FVec F S8192x1024 .bf16) : FVec F S1024 .bf16 :=
  Host.reduce FloatOps.maximumf x (constant S_ .bf16 0xFF80#16) reducesTo_S8192x1024_S1024_d0 h_S_

/-- The row of each column's maximum. -/
def colArg (x : FVec F S8192x1024 .bf16) : IVec S1024 32 :=
  seconds (Host.argReduce reducer_argmax_bf16_i32 x (iotaInDim S8192x1024 32 0) (constant S_ .bf16 0xFF80#16) (constantI S_ 32 0#32)
    reducesTo_S8192x1024_S1024_d0 h_S_)

/-- The result from the argument: the maxima above their rows. -/
def refOut (x : FVec F S8192x1024 .bf16) : FVec F S2x1024 .f32 :=
  concatenate S2x1024 0
    [⟨S1x1024, broadcastInDim S1x1024 ![1] bcast_S1024_S1x1024_1 (extf .f32 (colMax x) bitsLt_bf16_f32)⟩,
     ⟨S1x1024, broadcastInDim S1x1024 ![1] bcast_S1024_S1x1024_1 (sitofp .f32 (colArg x))⟩]
    concatenates_S1x1024_S1x1024_S2x1024_d0

/-- The operations, in order. -/
abbrev ops : List (HloOp τ sig (Elt F)) :=
  [ nullary main_call0_v0 (iotaInDim S8192x1024 32 0),
    nullary main_call0_cst (constant S_ .bf16 0xFF80#16),
    nullary main_call0_c (constantI S_ 32 0#32),
    quaternary main_arg0 main_call0_v0 main_call0_cst main_call0_c main_call0_v1_0
      (fun x y u v j => (Host.argReduce reducer_argmax_bf16_i32 x y u v reducesTo_S8192x1024_S1024_d0 h_S_ j).1),
    quaternary main_arg0 main_call0_v0 main_call0_cst main_call0_c main_v0
      (fun x y u v j => (Host.argReduce reducer_argmax_bf16_i32 x y u v reducesTo_S8192x1024_S1024_d0 h_S_ j).2),
    unary main_v0 main_v1 (sitofp .f32 : (⟨S1024, .i32⟩ : BufTy).Contents (Elt F) → (⟨S1024, .f32⟩ : BufTy).Contents (Elt F)),
    nullary main_cst (constant S_ .bf16 0xFF80#16),
    binary main_arg0 main_cst main_v2 ((fun x v => Host.reduce FloatOps.maximumf x v reducesTo_S8192x1024_S1024_d0 h_S_) : (⟨S8192x1024, .bf16⟩ : BufTy).Contents (Elt F) → (⟨S_, .bf16⟩ : BufTy).Contents (Elt F) → (⟨S1024, .bf16⟩ : BufTy).Contents (Elt F)),
    unary main_v2 main_v3 ((extf .f32 · bitsLt_bf16_f32) : (⟨S1024, .bf16⟩ : BufTy).Contents (Elt F) → (⟨S1024, .f32⟩ : BufTy).Contents (Elt F)),
    unary main_v3 main_v4 (broadcastInDim S1x1024 ![1] bcast_S1024_S1x1024_1 : (⟨S1024, .f32⟩ : BufTy).Contents (Elt F) → (⟨S1x1024, .f32⟩ : BufTy).Contents (Elt F)),
    unary main_v1 main_v5 (broadcastInDim S1x1024 ![1] bcast_S1024_S1x1024_1 : (⟨S1024, .f32⟩ : BufTy).Contents (Elt F) → (⟨S1x1024, .f32⟩ : BufTy).Contents (Elt F)),
    binary main_v4 main_v5 main_v6 ((fun a b => concatenate S2x1024 0 [⟨S1x1024, a⟩, ⟨S1x1024, b⟩] concatenates_S1x1024_S1x1024_S2x1024_d0) : (⟨S1x1024, .f32⟩ : BufTy).Contents (Elt F) → (⟨S1x1024, .f32⟩ : BufTy).Contents (Elt F) → (⟨S2x1024, .f32⟩ : BufTy).Contents (Elt F)) ]

/-- The program is that straight line. -/
theorem main_eq (c : Dev nD) : main (F := F) c = seq ops := rfl

/-- The result's contents after the operations. -/
theorem out_eq (V : Valuation τ sig (Elt F)) : after ops V (main_v6 : DevRef τ sig) = refOut (V (main_arg0 : DevRef τ sig)) := by
  after_results
  rfl

/-- No operation writes the argument. -/
theorem arg0_eq (V : Valuation τ sig (Elt F)) : after ops V (main_arg0 : DevRef τ sig) = V (main_arg0 : DevRef τ sig) := by
  after_results

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches references of its own core only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., unary_bufs_sub .., binary_bufs_sub ..⟩

/-- Every run ends, with the result at `refOut` of the argument, the argument unchanged and the counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v6).trans (out_eq _), (h c main_arg0).trans (arg0_eq _)⟩,
      sem_eq_zero_of_no_sems rfl r.2⟩)
    (run_seq scopedRefs_eq scopedSems_eq defs main (fun _ => ops) main_eq (fun _ => ops_sub) m ρ)

end Cert.ReferenceIdeal.Host

end
-- ==== Proof.Tiles.lean ====
/-
The kernel's operations on a chunk of rows, column by column: its maximum and the row that holds it, the casts between one row
and a block of rows, and the choice between two pairs of a value and a row.
-/
module

public import proofs.«01_k».proof.Proof.Columns
public import Idealize.ShloMosaic.PureOps.Ideal.Laws
public import Idealize.ShloMosaic.Lib.Pipeline.Value

@[expose] public section

noncomputable section

namespace Cert.Columns

open Cert.Best
open Idealize.ShloMosaic

variable {R C N : Nat}

/-! ## Casts -/

/-- One row as a block of one block of one row. -/
abbrev Mat3 (C : Nat) : Shape := ⟨3, ![1, 1, C]⟩

/-- The index of column `l` in it. -/
def at3 (l : Fin C) : (Mat3 C).Idx := fun a => match a with | 0 => (0 : Fin 1) | 1 => (0 : Fin 1) | 2 => l

/-- A row cast to a matrix of one row. -/
theorem cast12 {α : Type} (v : (Row C).Idx → α) (h : (Row C).ShapeCasts (Mat 1 C)) (l : Fin C) :
    shapeCast (Mat 1 C) v h (at2 (0 : Fin 1) l) = v (k1 l) :=
  (shapeCast_addUnit_apply ![C] v h _).trans (congrArg v (funext fun a => by fin_cases a; rfl))

/-- A matrix of one row cast to a block. -/
theorem cast23 {α : Type} (v : (Mat 1 C).Idx → α) (h : (Mat 1 C).ShapeCasts (Mat3 C)) (l : Fin C) :
    shapeCast (Mat3 C) v h (at3 l) = v (at2 (0 : Fin 1) l) :=
  (shapeCast_addUnit_apply ![1, C] v h _).trans (congrArg v (funext fun a => by fin_cases a <;> rfl))

/-- A block cast to a matrix of one row. -/
theorem cast32 {α : Type} (v : (Mat3 C).Idx → α) (h : (Mat3 C).ShapeCasts (Mat 1 C)) (l : Fin C) :
    shapeCast (Mat 1 C) v h (at2 (0 : Fin 1) l) = v (at3 l) :=
  (shapeCast_dropUnit_apply ![1, C] v h _).trans (congrArg v (funext fun a => by fin_cases a <;> rfl))

/-! ## A chunk's maximum and its row -/

/-- The kernel's word for −∞ is −∞. -/
theorem bot_f32 : (FloatOps.ofBits (F := Ideal) .f32 0xFF800000#32 : EReal) = ⊥ := by
  show Ideal.ofBits .f32 0xFF800000#32 = ⊥
  simp [Ideal.ofBits, Ideal.ieee]

/-- The maximum of a column is the value at its first greatest row. -/
theorem max_eq (y : FVec Ideal (Mat R C) .f32) (h : (Mat R C).Reduces [0] (Row C)) (hφ : FKind.Formats .f32)
    (hacc : (0xFF800000#32 : BitVec FTy.f32.bits) = FKind.maximumf.neutral .f32 hφ)
    (l : Fin C) (n : Fin R) (hn : Best (col y l) (fun _ => True) n) :
    multiReduction .maximumf [0] (Row C) y 0xFF800000#32 h hφ hacc (k1 l) = col y l n := by
  rw [multiReduction_maximumf_eq_fold, bot_f32]
  exact fold_max_eq h.reducesTo y l n hn

/-- The position of a column's maximum is its first greatest row. -/
theorem index_eq (y : FVec Ideal (Mat R C) .f32) (h : (Mat R C).Reduces [0] (Row C))
    (l : Fin C) (n : Fin R) (hn : Best (col y l) (fun _ => True) n) :
    reduceIndex .argMax 0 (Row C) y h (k1 l) = BitVec.ofNat 32 n.val := by
  show Ideal.reduceIndex .argMax 0 h y (k1 l) = _
  unfold Ideal.reduceIndex
  simp only [if_true]
  have hd : ∀ i : (Mat R C).Idx, h.drop i = k1 l ↔ i 1 = l := fun i => drop_iff h.reducesTo i l
  generalize hE : (Finset.univ.filter fun i => h.drop i = k1 l).filter
    (fun i => ∀ i' ∈ Finset.univ.filter fun i => h.drop i = k1 l, ¬ y i < y i') = E
  have hm : (E.image fun i => (i 0).val).min = ((n.val : ℕ) : WithTop ℕ) := by
    refine le_antisymm (Finset.min_le (Finset.mem_image.2 ⟨at2 n l, ?_, rfl⟩)) (Finset.le_min fun a ha => ?_)
    · subst hE
      refine Finset.mem_filter.2 ⟨Finset.mem_filter.2 ⟨Finset.mem_univ _, (hd _).2 rfl⟩, fun i' hi' => ?_⟩
      rw [of_idx y i' ((hd i').1 (Finset.mem_filter.1 hi').2)]
      rcases hn.2 (i' 0) trivial with g | ⟨g, -⟩
      · exact g.not_gt
      · exact fun g' => absurd g' (by rw [g]; exact lt_irrefl _)
    · obtain ⟨i, hi, rfl⟩ := Finset.mem_image.1 ha
      subst hE
      obtain ⟨hi1, hi2⟩ := Finset.mem_filter.1 hi
      have g' := hi2 (at2 n l) (Finset.mem_filter.2 ⟨Finset.mem_univ _, (hd _).2 rfl⟩)
      rw [of_idx y i ((hd i).1 (Finset.mem_filter.1 hi1).2)] at g'
      rcases hn.2 (i 0) trivial with g | ⟨-, g⟩
      · exact absurd g g'
      · exact WithTop.coe_le_coe.2 g
  rw [hm]
  rfl

/-! ## Pairs of a value and a row -/

/-- `u` is the greatest value of `f` where `S` holds, and `v` the first position of it. -/
def Holds (f : Fin N → EReal) (S : Fin N → Prop) (u v : EReal) : Prop :=
  ∃ n, Best f S n ∧ u = f n ∧ v = ((n.val : ℝ) : EReal)

theorem Holds.congr {f : Fin N → EReal} {S T : Fin N → Prop} {u v : EReal} (h : Holds f S u v) (hST : ∀ k, S k ↔ T k) :
    Holds f T u v := by
  obtain ⟨n, hn, hu, hv⟩ := h
  exact ⟨n, hn.congr hST, hu, hv⟩

/-- Positions compare as values as they do as numbers. -/
theorem pos_lt (m n : Nat) : ((m : ℝ) : EReal) < ((n : ℝ) : EReal) ↔ m < n := by
  rw [EReal.coe_lt_coe_iff, Nat.cast_lt]

/-- Whether the second pair is better: a greater value, or an equal one at a smaller position. -/
def lexSel (a p b q : EReal) : BitVec 1 :=
  IntOp.ori (Ideal.cmp .ogt b a) (IntOp.andi (Ideal.cmp .oeq b a) (Ideal.cmp .olt q p))

theorem lexSel_eq (a p b q : EReal) : lexSel a p b q = 1 ↔ (a < b ∨ (b = a ∧ q < p)) := by
  have e1 : Ideal.cmp .ogt b a = BitVec.ofBool (decide (a < b)) := rfl
  have e2 : Ideal.cmp .oeq b a = BitVec.ofBool (decide (b = a)) := rfl
  have e3 : Ideal.cmp .olt q p = BitVec.ofBool (decide (q < p)) := rfl
  rw [lexSel, e1, e2, e3]
  by_cases h1 : a < b <;> by_cases h2 : b = a <;> by_cases h3 : q < p <;> simp [h1, h2, h3, IntOp.ori, IntOp.andi]

/-- The better one of two pairs is the best over both conditions. -/
theorem Holds.lex {f : Fin N → EReal} {S T : Fin N → Prop} {a p b q : EReal} (h : Holds f S a p) (g : Holds f T b q) :
    Holds f (fun k => S k ∨ T k) (Scalar.select (lexSel a p b q) b a) (Scalar.select (lexSel a p b q) q p) := by
  obtain ⟨n, hn, rfl, rfl⟩ := h
  obtain ⟨m, hm, rfl, rfl⟩ := g
  have key := lexSel_eq (f n) ((n.val : ℝ) : EReal) (f m) ((m.val : ℝ) : EReal)
  rw [pos_lt] at key
  by_cases hc : f n < f m ∨ (f m = f n ∧ m.val < n.val)
  · refine ⟨m, hn.take hm hc, ?_, ?_⟩ <;> exact if_pos (key.2 hc)
  · refine ⟨n, hn.keep hm hc, ?_, ?_⟩ <;> exact if_neg fun h => hc (key.1 h)

/-- The same by the values alone, when the second condition lies after the first. -/
theorem Holds.later {f : Fin N → EReal} {S T : Fin N → Prop} {a p b q : EReal} (h : Holds f S a p) (g : Holds f T b q)
    (hST : ∀ s t, S s → T t → s < t) :
    Holds f (fun k => S k ∨ T k) (Scalar.select (Ideal.cmp .ogt b a) b a) (Scalar.select (Ideal.cmp .ogt b a) q p) := by
  obtain ⟨n, hn, rfl, rfl⟩ := h
  obtain ⟨m, hm, rfl, rfl⟩ := g
  have e1 : Ideal.cmp .ogt (f m) (f n) = BitVec.ofBool (decide (f n < f m)) := rfl
  have hlt := hST n m hn.1 hm.1
  rw [e1]
  by_cases hc : f n < f m
  · refine ⟨m, hn.take hm (.inl hc), ?_, ?_⟩ <;> simp [hc, Scalar.select]
  · refine ⟨n, hn.keep hm fun h => ?_, ?_, ?_⟩
    · rcases h with h | ⟨-, h⟩
      · exact hc h
      · exact absurd h hlt.not_gt
    · simp [hc, Scalar.select]
    · simp [hc, Scalar.select]

/-- A chunk's maximum and the position of its row, the chunk's rows being those of `f` from `base` on. -/
theorem holds_chunk (f : Fin N → EReal) (base : Nat) (hb : base + R ≤ N) (g : Fin R → EReal) (hg : ∀ k : Fin R, g k = f ⟨base + k.val, by omega⟩)
    (n : Fin R) (hn : Best g (fun _ => True) n) (u v : EReal) (hu : u = g n) (hv : v = (((n.val + base : ℕ) : ℝ) : EReal)) :
    Holds f (fun k => base ≤ k.val ∧ k.val < base + R) u v := by
  refine ⟨⟨base + n.val, by omega⟩, ⟨⟨Nat.le_add_right _ _, by simp⟩, fun k hk => ?_⟩, hu.trans (hg n), ?_⟩
  · have := hn.2 ⟨k.val - base, by omega⟩ trivial
    rw [hg, hg] at this
    have e : (⟨base + (k.val - base), by omega⟩ : Fin N) = k := Fin.ext (by show base + (k.val - base) = k.val; omega)
    rw [e] at this
    rcases this with h | ⟨h, h'⟩
    · exact .inl h
    · refine .inr ⟨h, ?_⟩
      have h'' : n.val ≤ k.val - base := h'
      show base + n.val ≤ k.val
      omega
  · rw [hv, Nat.add_comm]

end Cert.Columns

end
-- ==== Proof.KernelIdealColumns.lean ====
/-
The values the kernel computes, at one column: in a chunk, after a device's two chunks, and after the four devices' blocks meet.
-/
module

public import proofs.«01_k».proof.Proof.KernelIdealCommon
public import proofs.«01_k».proof.Proof.Tiles

@[expose] public section

noncomputable section

namespace Cert.KernelIdeal.Proto

open Cert.Best Cert.Columns
open Cert.KernelIdeal Cert.KernelIdeal.Gen
open Idealize.ShloMosaic Idealize.ShloMosaic.TcCoe

/-! ## One chunk -/

/-- The widened chunk is the chunk. -/
theorem pay1_apply (V : Vec Ideal S1024x1024 .bf16) (k l : Fin 1024) : (k0_pay1 V (at2 k l) : EReal) = V (at2 k l) :=
  congrFun (shapeCast_self V shapeCasts_S1024x1024_S1024x1024) (at2 k l)

/-- The device's number, as the kernel computes it. -/
theorem word_eq (d : Dev nD) : Scalar.remsi (Scalar.divsi (Dev.word d) 1#32) 4#32 = BitVec.ofNat 32 d.val := by
  revert d; decide

/-- The position computed from a row of the chunk, the chunk's number and the device's. -/
theorem pos_eq (r g d : Nat) (hr : r < 1024) (hg : g < 2) (hd : d < 4) :
    (IntOp.addi (IntOp.addi (BitVec.ofNat 32 r) (Scalar.muli (BitVec.ofNat 32 g) 1024#32)) (Scalar.muli (BitVec.ofNat 32 d) 2048#32)).toInt
      = ((r + (d * 2048 + g * 1024) : ℕ) : ℤ) := by
  have e : IntOp.addi (IntOp.addi (BitVec.ofNat 32 r) (Scalar.muli (BitVec.ofNat 32 g) 1024#32)) (Scalar.muli (BitVec.ofNat 32 d) 2048#32)
      = BitVec.ofNat 32 (r + (d * 2048 + g * 1024)) := by
    show BitVec.ofNat 32 r + BitVec.ofNat 32 g * 1024#32 + BitVec.ofNat 32 d * 2048#32 = _
    rw [Nat.add_comm (d * 2048), ← Nat.add_assoc, BitVec.ofNat_add, BitVec.ofNat_add, BitVec.ofNat_mul, BitVec.ofNat_mul]
  rw [e, toInt_word (by omega)]

/-- The chunk's maximum as one row. -/
theorem pay2_eq (V : Vec Ideal S1024x1024 .bf16) : k0_pay2 V
    = shapeCast S1x1024 (multiReduction .maximumf [0] S1024 (k0_pay1 V) 0xFF800000#32 reduces_S1024x1024_S1024 (.inl rfl) rfl)
        shapeCasts_S1024_S1x1024 := by
  unfold k0_pay2
  exact Eq.refl _

/-- The chunk's maximum at a column. -/
theorem pay2_apply (V : Vec Ideal S1024x1024 .bf16) (l n : Fin 1024) (hn : Best (fun k => (V (at2 k l) : EReal)) (fun _ => True) n) :
    (k0_pay2 V (at2 (0 : Fin 1) l) : EReal) = V (at2 n l) := by
  have e : (col (k0_pay1 V) l : Fin 1024 → EReal) = fun k => V (at2 k l) := funext fun k => pay1_apply V k l
  rw [pay2_eq]
  refine (cast12 _ shapeCasts_S1024_S1x1024 l).trans ?_
  refine (max_eq (k0_pay1 V) reduces_S1024x1024_S1024 (.inl rfl) rfl l n ?_).trans (pay1_apply V n l)
  rw [e]; exact hn

/-- The position of the chunk's maximum at a column. -/
theorem pay3_apply (i : grid0.Coords) (d : Dev nD) (V : Vec Ideal S1024x1024 .bf16) (l n : Fin 1024)
    (hn : Best (fun k => (V (at2 k l) : EReal)) (fun _ => True) n) :
    (k0_pay3 i d V (at2 (0 : Fin 1) l) : EReal) = (((n.val + (d.val * 2048 + (i 0).val * 1024) : ℕ) : ℝ) : EReal) := by
  have e : (col (k0_pay1 V) l : Fin 1024 → EReal) = fun k => V (at2 k l) := funext fun k => pay1_apply V k l
  have h12 : shapeCast S1x1024 (reduceIndex .argMax 0 S1024 (k0_pay1 V) reduces_S1024x1024_S1024) shapeCasts_S1024_S1x1024 (at2 (0 : Fin 1) l)
      = BitVec.ofNat 32 n.val :=
    (cast12 _ shapeCasts_S1024_S1x1024 l).trans (index_eq (k0_pay1 V) reduces_S1024x1024_S1024 l n (by rw [e]; exact hn))
  have h : (k0_pay3 i d V (at2 (0 : Fin 1) l) : EReal)
      = (((IntOp.addi (IntOp.addi (shapeCast S1x1024 (reduceIndex .argMax 0 S1024 (k0_pay1 V) reduces_S1024x1024_S1024) shapeCasts_S1024_S1x1024 (at2 (0 : Fin 1) l))
          (Scalar.muli (BitVec.ofNat 32 (i 0).val) 1024#32)) (Scalar.muli (Scalar.remsi (Scalar.divsi (Dev.word d) 1#32) 4#32) 2048#32)).toInt : ℝ) : EReal) := by
    unfold k0_pay3
    exact Eq.refl _
  rw [h, h12, word_eq, pos_eq _ _ _ n.isLt (i 0).isLt d.isLt]
  exact congrArg _ (Int.cast_natCast _)

/-- The first position of a device's chunk. -/
abbrev base (i : grid0.Coords) (d : Dev nD) : Nat := d.val * 2048 + (i 0).val * 1024

/-- The chunk's pair, when the chunk holds the rows of `f` from its first position on. -/
theorem chunk_holds (f : Fin 8192 → EReal) (i : grid0.Coords) (d : Dev nD) (V : Vec Ideal S1024x1024 .bf16) (l : Fin 1024)
    (hb : base i d + 1024 ≤ 8192) (hV : ∀ k : Fin 1024, (V (at2 k l) : EReal) = f ⟨base i d + k.val, by omega⟩) :
    Holds f (fun k => base i d ≤ k.val ∧ k.val < base i d + 1024) (k0_pay2 V (at2 (0 : Fin 1) l)) (k0_pay3 i d V (at2 (0 : Fin 1) l)) := by
  obtain ⟨n, hn⟩ := exists_best (fun k => (V (at2 k l) : EReal)) (fun _ => True) (k := l) trivial
  exact holds_chunk f (base i d) hb _ hV n hn _ _ (pay2_apply V l n hn) (pay3_apply i d V l n hn)

/-! ## Two chunks -/

/-- The first chunk's stores. -/
theorem pay4_apply (V : Vec Ideal S1024x1024 .bf16) (l : Fin 1024) : k0_pay4 V (at3 l) = k0_pay2 V (at2 (0 : Fin 1) l) := by
  unfold k0_pay4
  generalize k0_pay2 V = y
  exact cast23 y shapeCasts_S1x1024_S1x1x1024 l

theorem pay5_apply (i : grid0.Coords) (d : Dev nD) (V : Vec Ideal S1024x1024 .bf16) (l : Fin 1024) :
    k0_pay5 i d V (at3 l) = k0_pay3 i d V (at2 (0 : Fin 1) l) := by
  unfold k0_pay5
  generalize k0_pay3 i d V = y
  exact cast23 y shapeCasts_S1x1024_S1x1x1024 l

/-- A block read as one row. -/
theorem pay6_apply (a : Vec Ideal S1x1x1024 .f32) (l : Fin 1024) : k0_pay6 a (at2 (0 : Fin 1) l) = a (at3 l) := by
  unfold k0_pay6
  exact cast32 a shapeCasts_S1x1x1024_S1x1024 l

/-- A comparison and a choice, at an index. -/
theorem cmpf_apply {s : Shape} (pr : CmpFPredicate) (y z : FVec Ideal s .f32) (j : s.Idx) : cmpf pr y z j = Ideal.cmp pr (y j) (z j) := rfl
theorem select_apply {s : Shape} {α : Type} (c : IVec s 1) (y z : s.Idx → α) (j : s.Idx) : select c y z j = Scalar.select (c j) (y j) (z j) := rfl

/-- The second chunk's choice. -/
theorem pay7_apply (V : Vec Ideal S1024x1024 .bf16) (a : Vec Ideal S1x1x1024 .f32) (l : Fin 1024) :
    k0_pay7 V a (at2 (0 : Fin 1) l) = Ideal.cmp .ogt (k0_pay2 V (at2 (0 : Fin 1) l)) (a (at3 l)) := by
  unfold k0_pay7
  rw [← pay6_apply a l]
  generalize k0_pay2 V = y
  generalize k0_pay6 a = z
  exact cmpf_apply _ y z _

/-- The second chunk's stores. -/
theorem pay8_apply (V : Vec Ideal S1024x1024 .bf16) (a : Vec Ideal S1x1x1024 .f32) (l : Fin 1024) :
    k0_pay8 V a (at3 l) = Scalar.select (Ideal.cmp .ogt (k0_pay2 V (at2 (0 : Fin 1) l)) (a (at3 l))) (k0_pay2 V (at2 (0 : Fin 1) l)) (a (at3 l)) := by
  rw [← pay7_apply, ← pay6_apply a l]
  unfold k0_pay8
  generalize k0_pay7 V a = c
  generalize k0_pay2 V = y
  generalize k0_pay6 a = z
  exact (cast23 (select c y z) shapeCasts_S1x1024_S1x1x1024 l).trans (select_apply c y z _)

theorem pay9_apply (i : grid0.Coords) (d : Dev nD) (V : Vec Ideal S1024x1024 .bf16) (a p : Vec Ideal S1x1x1024 .f32) (l : Fin 1024) :
    k0_pay9 i d V a p (at3 l)
      = Scalar.select (Ideal.cmp .ogt (k0_pay2 V (at2 (0 : Fin 1) l)) (a (at3 l))) (k0_pay3 i d V (at2 (0 : Fin 1) l)) (p (at3 l)) := by
  rw [← pay7_apply, ← pay6_apply p l]
  have e : k0_pay9 i d V a p = shapeCast S1x1x1024 (select (k0_pay7 V a) (k0_pay3 i d V) (k0_pay6 p)) shapeCasts_S1x1024_S1x1x1024 := by
    unfold k0_pay9
    exact Eq.refl _
  rw [e]
  generalize k0_pay7 V a = c
  generalize k0_pay3 i d V = y
  generalize k0_pay6 p = z
  exact (cast23 (select c y z) shapeCasts_S1x1024_S1x1x1024 l).trans (select_apply c y z _)

/-! ## Two blocks -/

variable (a p b q b₂ q₂ : Vec Ideal S1x1x1024 .f32) (u v : FVec Ideal S1x1024 .f32)

theorem pay14_apply (l : Fin 1024) : k0_pay14 a p b q (at2 (0 : Fin 1) l) = lexSel (a (at3 l)) (p (at3 l)) (b (at3 l)) (q (at3 l)) := by
  rw [← cast32 a shapeCasts_S1x1x1024_S1x1024 l, ← cast32 p shapeCasts_S1x1x1024_S1x1024 l,
    ← cast32 b shapeCasts_S1x1x1024_S1x1024 l, ← cast32 q shapeCasts_S1x1x1024_S1x1024 l]
  exact Eq.refl _

theorem pay15_apply (l : Fin 1024) : k0_pay15 a p b q (at2 (0 : Fin 1) l)
    = Scalar.select (lexSel (a (at3 l)) (p (at3 l)) (b (at3 l)) (q (at3 l))) (b (at3 l)) (a (at3 l)) := by
  rw [← pay14_apply, ← cast32 a shapeCasts_S1x1x1024_S1x1024 l, ← cast32 b shapeCasts_S1x1x1024_S1x1024 l]
  exact Eq.refl _

theorem pay16_apply (l : Fin 1024) : k0_pay16 a p b q (at2 (0 : Fin 1) l)
    = Scalar.select (lexSel (a (at3 l)) (p (at3 l)) (b (at3 l)) (q (at3 l))) (q (at3 l)) (p (at3 l)) := by
  rw [← pay14_apply, ← cast32 p shapeCasts_S1x1x1024_S1x1024 l, ← cast32 q shapeCasts_S1x1x1024_S1x1024 l]
  exact Eq.refl _

theorem pay24_apply (l : Fin 1024) : k0_pay24 u v b q (at2 (0 : Fin 1) l)
    = lexSel (u (at2 (0 : Fin 1) l)) (v (at2 (0 : Fin 1) l)) (b (at3 l)) (q (at3 l)) := by
  rw [← cast32 b shapeCasts_S1x1x1024_S1x1024 l, ← cast32 q shapeCasts_S1x1x1024_S1x1024 l]
  exact Eq.refl _

theorem pay25_apply (l : Fin 1024) : k0_pay25 u v b q (at2 (0 : Fin 1) l)
    = Scalar.select (lexSel (u (at2 (0 : Fin 1) l)) (v (at2 (0 : Fin 1) l)) (b (at3 l)) (q (at3 l))) (b (at3 l)) (u (at2 (0 : Fin 1) l)) := by
  rw [← pay24_apply, ← cast32 b shapeCasts_S1x1x1024_S1x1024 l]
  exact Eq.refl _

theorem pay26_apply (l : Fin 1024) : k0_pay26 u v b q (at2 (0 : Fin 1) l)
    = Scalar.select (lexSel (u (at2 (0 : Fin 1) l)) (v (at2 (0 : Fin 1) l)) (b (at3 l)) (q (at3 l))) (q (at3 l)) (v (at2 (0 : Fin 1) l)) := by
  rw [← pay24_apply, ← cast32 q shapeCasts_S1x1x1024_S1x1024 l]
  exact Eq.refl _

/-- The second of the three choices is the third one's choice, made on the first one's outcome. -/
theorem pay20_eq : k0_pay20 a p b q b₂ q₂ = k0_pay25 (k0_pay15 a p b q) (k0_pay16 a p b q) b₂ q₂ := rfl
theorem pay21_eq : k0_pay21 a p b q b₂ q₂ = k0_pay26 (k0_pay15 a p b q) (k0_pay16 a p b q) b₂ q₂ := rfl

variable {N : Nat} {f : Fin N → EReal} {S T : Fin N → Prop}

/-- The first choice between blocks. -/
theorem holds_first {l : Fin 1024} (h : Holds f S (a (at3 l)) (p (at3 l))) (g : Holds f T (b (at3 l)) (q (at3 l))) :
    Holds f (fun k => S k ∨ T k) (k0_pay15 a p b q (at2 (0 : Fin 1) l)) (k0_pay16 a p b q (at2 (0 : Fin 1) l)) := by
  rw [pay15_apply, pay16_apply]
  exact h.lex g

/-- A later choice. -/
theorem holds_next {l : Fin 1024} (h : Holds f S (u (at2 (0 : Fin 1) l)) (v (at2 (0 : Fin 1) l))) (g : Holds f T (b (at3 l)) (q (at3 l))) :
    Holds f (fun k => S k ∨ T k) (k0_pay25 u v b q (at2 (0 : Fin 1) l)) (k0_pay26 u v b q (at2 (0 : Fin 1) l)) := by
  rw [pay25_apply, pay26_apply]
  exact h.lex g

end Cert.KernelIdeal.Proto

end
-- ==== Proof.KernelIdealValue.lean ====
/-
What the kernel's result holds on every device: above, each column's greatest value over the four devices' rows; below, the row of
the whole array that holds it first.
-/
module

public import proofs.«01_k».proof.Proof.KernelIdealColumns
public import Idealize.ShloMosaic.Lib.Layout
public import Idealize.ShloMosaic.Lib.Pipeline.ValueKit

@[expose] public section

noncomputable section

namespace Cert.KernelIdeal.Proto

open Cert.Best Cert.Columns
open Cert.KernelIdeal Cert.KernelIdeal.Gen
open Idealize.ShloMosaic Idealize.ShloMosaic.TcCoe
open Idealize.SL Idealize.SL.Sem

variable (m : (ℓ : Loc nD τ sig) → Buf (Elt Ideal) ℓ) (x : (Mat 8192 1024).Idx → EReal)

/-- The windows' block numbers at the two grid points, along rows and along columns. -/
theorem idx00 : win0_0.index t0_0 0 = 0 := by decide
theorem idx01 : win0_0.index t0_0 1 = 0 := by decide
theorem idx10 : win0_0.index t0_1 0 = 1 := by decide
theorem idx11 : win0_0.index t0_1 1 = 0 := by decide

/-- The chunk staged at a grid point is that chunk of the device's argument. -/
theorem xb0_apply (c : Dev nD) (k l : Fin 1024) :
    xb m c t0_0 (at2 k l) = m ((c : Thread nD τ).loc main_arg0) (at2 (R := 2048) (C := 1024) ⟨k.val, by omega⟩ l) := by
  refine congrArg (m ((c : Thread nD τ).loc main_arg0)) ?_
  blk_ext
  · rw [idx00]
    exact (congrArg (· + k.val) (Nat.zero_mul 1024)).trans (Nat.zero_add _)
  · rw [idx01]
    exact (congrArg (· + l.val) (Nat.zero_mul 1024)).trans (Nat.zero_add _)

theorem xb1_apply (c : Dev nD) (k l : Fin 1024) :
    xb m c t0_1 (at2 k l) = m ((c : Thread nD τ).loc main_arg0) (at2 (R := 2048) (C := 1024) ⟨1024 + k.val, by omega⟩ l) := by
  refine congrArg (m ((c : Thread nD τ).loc main_arg0)) ?_
  blk_ext
  · rw [idx10]
    exact congrArg (· + k.val) (Nat.one_mul 1024)
  · rw [idx11]
    exact (congrArg (· + l.val) (Nat.zero_mul 1024)).trans (Nat.zero_add _)

/-! ## One device -/

/-- Every device's argument is its block of rows of the whole array. -/
def Cut : Prop := ∀ c : Dev nD, m ((c : Thread nD τ).loc main_arg0) = Layout.block ⟨2, ![2048, 1024]⟩ ⟨2, ![8192, 1024]⟩ 0 4 c x

variable {m x} (hcut : Cut m x)

include hcut

/-- A row of a device's argument is a row of the whole array. -/
theorem cut_apply (c : Dev nD) (r : Fin 2048) (l : Fin 1024) :
    m ((c : Thread nD τ).loc main_arg0) (at2 (R := 2048) (C := 1024) r l) = col x l ⟨c.val * 2048 + r.val, by have : c.val < 4 := c.isLt; omega⟩ := by
  rw [hcut c, Layout.block_apply]
  exact congrArg x (Layout.idx_rows_pair (dS := ![2048, 1024]) (dT := ![8192, 1024]) _ c r l)

/-- The device's rows. -/
abbrev Mine (c : Dev nD) (k : Fin 8192) : Prop := c.val * 2048 ≤ k.val ∧ k.val < c.val * 2048 + 2048

/-- The first chunk's pair. -/
theorem holds0 (c : Dev nD) (l : Fin 1024) :
    Holds (col x l) (fun k => c.val * 2048 ≤ k.val ∧ k.val < c.val * 2048 + 1024)
      (k0_pay2 (xb m c t0_0) (at2 (0 : Fin 1) l)) (k0_pay3 (grid0.coords t0_0) c (xb m c t0_0) (at2 (0 : Fin 1) l)) := by
  have hc : c.val < 4 := c.isLt
  have e : base (grid0.coords t0_0) c = c.val * 2048 := by
    have e0 : (grid0.coords t0_0 0).val = 0 := by decide
    rw [base, e0, Nat.zero_mul, Nat.add_zero]
  refine (chunk_holds (col x l) (grid0.coords t0_0) c (xb m c t0_0) l (by omega) fun k => ?_).congr fun k => by rw [e]
  rw [xb0_apply, cut_apply hcut]
  refine congrArg (col x l) (Fin.ext ?_)
  show c.val * 2048 + k.val = base (grid0.coords t0_0) c + k.val
  rw [e]

/-- The second chunk's pair. -/
theorem holds1 (c : Dev nD) (l : Fin 1024) :
    Holds (col x l) (fun k => c.val * 2048 + 1024 ≤ k.val ∧ k.val < c.val * 2048 + 1024 + 1024)
      (k0_pay2 (xb m c t0_1) (at2 (0 : Fin 1) l)) (k0_pay3 (grid0.coords t0_1) c (xb m c t0_1) (at2 (0 : Fin 1) l)) := by
  have hc : c.val < 4 := c.isLt
  have e : base (grid0.coords t0_1) c = c.val * 2048 + 1024 := by
    have e0 : (grid0.coords t0_1 0).val = 1 := by decide
    rw [base, e0]
  refine (chunk_holds (col x l) (grid0.coords t0_1) c (xb m c t0_1) l (by omega) fun k => ?_).congr fun k => by rw [e]
  rw [xb1_apply, cut_apply hcut]
  refine congrArg (col x l) (Fin.ext ?_)
  show c.val * 2048 + (1024 + k.val) = base (grid0.coords t0_1) c + k.val
  rw [e, Nat.add_assoc]

omit hcut in
theorem row0_apply (c : Dev nD) (l : Fin 1024) : row 0 (acc0 m c) (at3 l) = k0_pay2 (xb m c t0_0) (at2 (0 : Fin 1) l) := by
  unfold acc0
  rw [row0_rows2, pay4_apply]

omit hcut in
theorem row1_apply (c : Dev nD) (l : Fin 1024) :
    row 1 (acc0 m c) (at3 l) = k0_pay3 (grid0.coords t0_0) c (xb m c t0_0) (at2 (0 : Fin 1) l) := by
  unfold acc0
  rw [row1_rows2, pay5_apply]

/-- A device's block holds the pair over the device's rows. -/
theorem holds_acc1 (c : Dev nD) (l : Fin 1024) : Holds (col x l) (Mine c) (row 0 (acc1 m c) (at3 l)) (row 1 (acc1 m c) (at3 l)) := by
  unfold acc1
  rw [row0_rows2, row1_rows2, pay8_apply, pay9_apply, row0_apply, row1_apply]
  refine ((holds0 hcut c l).later (holds1 hcut c l) fun s t hs ht => ?_).congr fun k => ?_
  · exact Fin.lt_def.2 (by omega)
  · show _ ↔ c.val * 2048 ≤ k.val ∧ k.val < c.val * 2048 + 2048
    omega

/-! ## Four devices -/

omit hcut in
/-- Every row is one of the device's or of one of the three that send to it. -/
theorem covers (c : Dev nD) (k : Fin 8192) :
    ((Mine c k ∨ Mine (peer (opp 0) c) k) ∨ Mine (peer (opp 1) c) k) ∨ Mine (peer (opp 2) c) k := by
  have hk := k.isLt
  have h : ∀ c : Dev nD, ∀ q : Fin 4, ((q.val = c.val ∨ q.val = (peer (opp 0) c).val) ∨ q.val = (peer (opp 1) c).val) ∨ q.val = (peer (opp 2) c).val := by
    decide
  have hm : ∀ d : Dev nD, k.val / 2048 = d.val → Mine d k := fun d hd => by
    show d.val * 2048 ≤ k.val ∧ k.val < d.val * 2048 + 2048
    omega
  rcases h c ⟨k.val / 2048, by omega⟩ with ((h | h) | h) | h
  · exact .inl (.inl (.inl (hm _ h)))
  · exact .inl (.inl (.inr (hm _ h)))
  · exact .inl (.inr (hm _ h))
  · exact .inr (hm _ h)

omit hcut in
/-- The result's two rows. -/
theorem outRows0 {α : Type} (u v : S1x1024.Idx → α) (l : Fin 1024) : outRows u v (ij 0 l) = u (at2 (0 : Fin 1) l) := rfl
omit hcut in
theorem outRows1 {α : Type} (u v : S1x1024.Idx → α) (l : Fin 1024) : outRows u v (ij 1 l) = v (at2 (0 : Fin 1) l) := rfl

/-- On every device the result holds the pair over all the rows. -/
theorem holds_out (c : Dev nD) (l : Fin 1024) : Holds (col x l) (fun _ => True) (outAt m c (ij 0 l)) (outAt m c (ij 1 l)) := by
  have h1 := holds_first _ _ _ _ (holds_acc1 hcut c l) (holds_acc1 hcut (peer (opp 0) c) l)
  have h2 := holds_next _ _ _ _ h1 (holds_acc1 hcut (peer (opp 1) c) l)
  have h3 := holds_next _ _ _ _ h2 (holds_acc1 hcut (peer (opp 2) c) l)
  unfold outAt combine landed
  rw [outRows0, outRows1, pay20_eq, pay21_eq]
  exact h3.congr fun k => ⟨fun _ => trivial, fun _ => covers c k⟩

end Cert.KernelIdeal.Proto

end
-- ==== Proof.ReferenceValue.lean ====
/-
What the reference's result holds: above, each column's greatest value; below, the row that holds it first.
-/
module

public import proofs.«01_k».proof.Proof.ReferenceRun
public import proofs.«01_k».proof.Proof.Columns

@[expose] public section

noncomputable section

namespace Cert.ReferenceIdeal.Host

open Cert.Best Cert.Columns
open Cert.ReferenceIdeal Cert.ReferenceIdeal.Gen
open Idealize.ShloMosaic

/-- The reference's word for −∞ is −∞. -/
theorem bot_bf16 : (FloatOps.ofBits (F := Ideal) .bf16 0xFF80#16 : EReal) = ⊥ := by
  show Ideal.ofBits .bf16 0xFF80#16 = ⊥
  simp [Ideal.ofBits, Ideal.ieee]

/-- The reference's reducer keeps the better one of two pairs. -/
theorem reducer_keeps {R : Nat} (hR : R ≤ 2 ^ 31) : Keeps R (reducer_argmax_bf16_i32 (F := Ideal)) := by
  intro v w n k hn hk
  have e1 : (BitVec.ofNat 32 n).slt (BitVec.ofNat 32 k) = decide (n < k) := by
    rw [BitVec.slt, toInt_word (by omega), toInt_word (by omega)]
    exact decide_eq_decide.2 Int.ofNat_lt
  have e2 : Ideal.cmp .une v v = 0#1 := by simp [Ideal.cmp]
  have e3 : Ideal.cmp .ogt v w = BitVec.ofBool (decide (w < v)) := rfl
  have e4 : Ideal.cmp .oeq v w = BitVec.ofBool (decide (v = w)) := rfl
  have e5 : IntOp.cmpi .slt (BitVec.ofNat 32 n) (BitVec.ofNat 32 k) = BitVec.ofBool (decide (n < k)) := by
    rw [← e1]; rfl
  have key : reducer_argmax_bf16_i32 (F := Ideal) (v, BitVec.ofNat 32 n) (w, BitVec.ofNat 32 k)
      = (Scalar.select (IntOp.ori (Ideal.cmp .ogt v w) (Ideal.cmp .une v v)) v w,
         Scalar.select (IntOp.ori (IntOp.ori (Ideal.cmp .ogt v w) (Ideal.cmp .une v v))
           (IntOp.andi (Ideal.cmp .oeq v w) (IntOp.cmpi .slt (BitVec.ofNat 32 n) (BitVec.ofNat 32 k)))) (BitVec.ofNat 32 n) (BitVec.ofNat 32 k)) := rfl
  rw [key, e2, e3, e4, e5]
  rcases lt_trichotomy w v with h | h | h
  · have h' : v ≠ w := h.ne'
    simp [h, h', Scalar.select, IntOp.ori, IntOp.andi]
  · subst h
    by_cases hnk : n < k
    · simp [hnk, hnk.le, Scalar.select, IntOp.ori, IntOp.andi]
    · rcases (not_lt.1 hnk).lt_or_eq with g | g
      · simp [hnk, not_le.2 g, Scalar.select, IntOp.ori, IntOp.andi]
      · subst g
        simp [Scalar.select, IntOp.ori, IntOp.andi]
  · have h' : v ≠ w := h.ne
    simp [h'.symm, h', h.not_gt, Scalar.select, IntOp.ori, IntOp.andi]

/-- The word for −∞, as an array of one element, at any index. -/
theorem bot_apply (j : S_.Idx) : (constant (F := Ideal) S_ .bf16 0xFF80#16 j : EReal) = ⊥ := bot_bf16

/-- The column maximum, written out. -/
theorem colMax_def (x : FVec Ideal S8192x1024 .bf16) : colMax x
    = Host.reduce FloatOps.maximumf x (constant S_ .bf16 0xFF80#16) reducesTo_S8192x1024_S1024_d0 h_S_ := by
  unfold colMax
  exact Eq.refl _

/-- The reference's column maximum is the value at the column's first greatest row. -/
theorem colMax_eq (x : FVec Ideal S8192x1024 .bf16) (l : Fin 1024) (n : Fin 8192) (hn : Best (col x l) (fun _ => True) n) :
    colMax x (k1 l) = col x l n := by
  rw [colMax_def]
  exact reduce_eq (φ := .bf16) reducesTo_S8192x1024_S1024_d0 h_S_ x (constant S_ .bf16 0xFF80#16) (bot_apply _) l n hn

/-- A widened value is the value itself. -/
theorem extf_apply {s : Shape} {φ ψ : FTy} (y : FVec Ideal s φ) (h : φ.bits < ψ.bits) (j : s.Idx) :
    (extf ψ y h j : EReal) = y j := rfl

/-- A word as a value is its number. -/
theorem sitofp_apply {s : Shape} {φ : FTy} (y : IVec s 32) (j : s.Idx) : sitofp (F := Ideal) φ y j = (((y j).toInt : ℝ) : EReal) := rfl

/-- The row of the maximum, written out. -/
theorem colArg_def (x : FVec Ideal S8192x1024 .bf16) : colArg x
    = seconds (Host.argReduce reducer_argmax_bf16_i32 x (iotaInDim S8192x1024 32 0) (constant S_ .bf16 0xFF80#16) (constantI S_ 32 0#32)
        reducesTo_S8192x1024_S1024_d0 h_S_) := by
  unfold colArg
  exact Eq.refl _

/-- The reference's row of the maximum is the column's first greatest row. -/
theorem colArg_eq (x : FVec Ideal S8192x1024 .bf16) (l : Fin 1024) (n : Fin 8192) (hn : Best (col x l) (fun _ => True) n) :
    colArg x (k1 l) = BitVec.ofNat 32 n.val := by
  rw [colArg_def]
  exact argReduce_eq (φ := .bf16) (reducer_keeps (by norm_num)) reducesTo_S8192x1024_S1024_d0 h_S_ x (constant S_ .bf16 0xFF80#16)
    (constantI S_ 32 0#32) (bot_apply _) rfl l n hn

/-- The reference's result at a column, given the column's first greatest row. -/
theorem refOut_eq (x : FVec Ideal S8192x1024 .bf16) (l : Fin 1024) (n : Fin 8192) (hn : Best (col x l) (fun _ => True) n) :
    refOut x (at2 (0 : Fin 2) l) = col x l n ∧ refOut x (at2 (1 : Fin 2) l) = ((n.val : ℝ) : EReal) := by
  constructor
  · refine (concat0 concatenates_S1x1024_S1x1024_S2x1024_d0 _ _ l).trans ?_
    refine (bcast_row (by norm_num) bcast_S1024_S1x1024_1 _ l).trans ?_
    exact (extf_apply (φ := .bf16) (ψ := .f32) (colMax x) bitsLt_bf16_f32 (k1 l)).trans (colMax_eq x l n hn)
  · refine (concat1 concatenates_S1x1024_S1x1024_S2x1024_d0 _ _ l).trans ?_
    refine (bcast_row (by norm_num) bcast_S1024_S1x1024_1 _ l).trans ?_
    refine (sitofp_apply _ _).trans ?_
    rw [colArg_eq x l n hn, toInt_word (by omega)]
    exact congrArg _ (Int.cast_natCast n.val)

end Cert.ReferenceIdeal.Host

end
-- ==== Proof.Equal.lean ====
/-
The kernel's result on every device is the reference's, when the devices' arguments are the blocks of the reference's argument.
-/
module

public import proofs.«01_k».proof.Proof.KernelIdealValue
public import proofs.«01_k».proof.Proof.ReferenceValue

@[expose] public section

noncomputable section

namespace Cert.Equal

open Cert.Best Cert.Columns
open Idealize.ShloMosaic Idealize.ShloMosaic.TcCoe

variable {m : (ℓ : Loc Cert.KernelIdeal.nD Cert.KernelIdeal.τ Cert.KernelIdeal.sig) → Buf (Elt Ideal) ℓ}

/-- Both hold, in each column, the greatest value and the first row that holds it. -/
theorem out_eq {x : FVec Ideal Cert.ReferenceIdeal.S8192x1024 .bf16} (hcut : Cert.KernelIdeal.Proto.Cut m x) (c : Dev Cert.KernelIdeal.nD) :
    Cert.KernelIdeal.Proto.outAt m c = Cert.ReferenceIdeal.Host.refOut x := by
  have key : ∀ (r : Fin 2) (l : Fin 1024), Cert.KernelIdeal.Proto.outAt m c (at2 r l) = Cert.ReferenceIdeal.Host.refOut x (at2 r l) := by
    intro r l
    obtain ⟨n, hn, h0, h1⟩ := Cert.KernelIdeal.Proto.holds_out hcut c l
    obtain ⟨g0, g1⟩ := Cert.ReferenceIdeal.Host.refOut_eq x l n hn
    fin_cases r
    · exact h0.trans g0.symm
    · exact h1.trans g1.symm
  funext i
  have := key (i 0) (i 1)
  rwa [show at2 (R := 2) (C := 1024) (i 0) (i 1) = i from Shape.pair_eta i] at this

end Cert.Equal

end
-- ==== Proof.lean ====
/- The proof of the certificate's claim: each program's run, with the claims read off it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_tie_Kernel
public import proofs.«01_k».proof.Proof.Gen.Pre_no_tie_ReferenceIdeal
public import proofs.«01_k».proof.Proof.KernelRun
public import proofs.«01_k».proof.Proof.KernelIdealRun
public import proofs.«01_k».proof.Proof.ReferenceRun
public import proofs.«01_k».proof.Proof.Equal

@[expose] public section

noncomputable section

namespace Cert.Proof

open Idealize.ShloMosaic Idealize.SL.Sem

/-- From arguments that are the blocks of the reference's, every device's result is the reference's. -/
theorem algebraic : Cert.algebraic_KernelIdeal_ReferenceIdeal (hKernelIdeal := Cert.KernelIdeal.Gen.facts)
    (hReferenceIdeal := Cert.ReferenceIdeal.Gen.facts) (hPre_no_tie_Kernel := Cert.Pre_no_tie_Kernel.Gen.facts) := by
  intro m g m' g' _ hcut
  refine ⟨Cert.ReferenceIdeal.Host.refOut (F := Ideal) (m' (((0 : Dev Cert.ReferenceIdeal.nD).tc :
    Thread Cert.ReferenceIdeal.nD Cert.ReferenceIdeal.τ).loc Cert.ReferenceIdeal.main_arg0)), ?_, ?_⟩
  · exact (θ_run (Cert.KernelIdeal.defs) _ _).mono
      (fun _ h c => ⟨((h.1 c).1).trans (Cert.Equal.out_eq hcut c), (h.1 c).2⟩) (Cert.KernelIdeal.Proto.run_main m g)
  · exact (θ_run (Cert.ReferenceIdeal.defs) _ _).mono (fun _ h => h.1 0) (Cert.ReferenceIdeal.Host.run_main m' g')

/-- Every claim of the certificate. -/
theorem claim : Cert.Claim := ⟨Cert.Kernel.Gen.facts, Cert.KernelIdeal.Gen.facts, Cert.ReferenceIdeal.Gen.facts,
    Cert.Pre_no_tie_Kernel.Gen.facts, Cert.Pre_no_tie_ReferenceIdeal.Gen.facts,
    fun m g _ => (θ_run (Cert.Kernel.defs) _ _).mono (fun _ h => ⟨fun c => (h.1 c).2, h.2⟩) (Cert.Kernel.Proto.run_main m g),
    fun m g _ => (θ_run (Cert.Kernel.defs) _ _).mono (fun _ h => ⟨fun c => (h.1 c).2, h.2⟩) (Cert.Kernel.Proto.run_main m g),
    fun m g _ => (θ_run (Cert.KernelIdeal.defs) _ _).mono (fun _ h => ⟨fun c => (h.1 c).2, h.2⟩) (Cert.KernelIdeal.Proto.run_main m g),
    fun m g _ => (θ_run (Cert.ReferenceIdeal.defs) _ _).mono (fun _ h => ⟨fun c => (h.1 c).2, h.2⟩) (Cert.ReferenceIdeal.Host.run_main m g),
    fun m g _ => (θ_run (Cert.ReferenceIdeal.defs) _ _).mono (fun _ h => ⟨fun c => (h.1 c).2, h.2⟩) (Cert.ReferenceIdeal.Host.run_main m g),
    trivial, algebraic⟩

end Cert.Proof

end
